-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ssm (m : (ℓ : Loc Cert.Ssm.nD Cert.Ssm.τ Cert.Ssm.sig) → Buf (Elt Bits) ℓ) : Prop :=
  True

def Pre_SsmIdeal (m : (ℓ : Loc Cert.SsmIdeal.nD Cert.SsmIdeal.τ Cert.SsmIdeal.sig) → Buf (Elt Ideal) ℓ) : Prop :=
  True

def Pre_SsmReferenceIdeal (m : (ℓ : Loc Cert.SsmReferenceIdeal.nD Cert.SsmReferenceIdeal.τ Cert.SsmReferenceIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaReferenceIdeal (m : (ℓ : Loc Cert.SwaReferenceIdeal.nD Cert.SwaReferenceIdeal.τ Cert.SwaReferenceIdeal.sig) → Buf (Elt Ideal) ℓ) : Prop :=
  True

def Pre_Dil (m : (ℓ : Loc Cert.Dil.nD Cert.Dil.τ Cert.Dil.sig) → Buf (Elt Bits) ℓ) : Prop :=
  True

def Pre_DilIdeal (m : (ℓ : Loc Cert.DilIdeal.nD Cert.DilIdeal.τ Cert.DilIdeal.sig) → Buf (Elt Ideal) ℓ) : Prop :=
  True

def Pre_DilReferenceIdeal (m : (ℓ : Loc Cert.DilReferenceIdeal.nD Cert.DilReferenceIdeal.τ Cert.DilReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerReferenceIdeal (m : (ℓ : Loc Cert.MixerReferenceIdeal.nD Cert.MixerReferenceIdeal.τ Cert.MixerReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ssm [hSsm : Cert.Ssm.Facts] : Prop :=
  ∀ (m : (ℓ : Loc Cert.Ssm.nD Cert.Ssm.τ Cert.Ssm.sig) → Buf (Elt Bits) ℓ) (g : Dev Cert.Ssm.nD → PrngReg), Pre_Ssm m →
    θ_run (Cert.Ssm.defs (F := Bits)) (onTc (τ := Cert.Ssm.τ) (Cert.Ssm.main (F := Bits))) ⟨m, fun _ => 0, g⟩ (fun r => (∀ c : Dev Cert.Ssm.nD,
      r.2.mem ((c.tc : Thread Cert.Ssm.nD Cert.Ssm.τ).loc Cert.Ssm.main_arg0) = m ((c.tc : Thread Cert.Ssm.nD Cert.Ssm.τ).loc Cert.Ssm.main_arg0)
      ∧ r.2.mem ((c.tc : Thread Cert.Ssm.nD Cert.Ssm.τ).loc Cert.Ssm.main_arg1) = m ((c.tc : Thread Cert.Ssm.nD Cert.Ssm.τ).loc Cert.Ssm.main_arg1)
      ∧ r.2.mem ((c.tc : Thread Cert.Ssm.nD Cert.Ssm.τ).loc Cert.Ssm.main_arg2) = m ((c.tc : Thread Cert.Ssm.nD Cert.Ssm.τ).loc Cert.Ssm.main_arg2))
      ∧ r.2.sem = fun _ => 0)

def quiescent_SsmIdeal [hSsmIdeal : Cert.SsmIdeal.Facts] : Prop :=
  ∀ (m : (ℓ : Loc Cert.SsmIdeal.nD Cert.SsmIdeal.τ Cert.SsmIdeal.sig) → Buf (Elt Ideal) ℓ) (g : Dev Cert.SsmIdeal.nD → PrngReg), Pre_SsmIdeal m →
    θ_run (Cert.SsmIdeal.defs (F := Ideal)) (onTc (τ := Cert.SsmIdeal.τ) (Cert.SsmIdeal.main (F := Ideal))) ⟨m, fun _ => 0, g⟩ (fun r => (∀ c : Dev Cert.SsmIdeal.nD,
      r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
      ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
      ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2))
      ∧ r.2.sem = fun _ => 0)

def quiescent_SsmReferenceIdeal [hSsmReferenceIdeal : Cert.SsmReferenceIdeal.Facts] : Prop :=
  ∀ (m : (ℓ : Loc Cert.SsmReferenceIdeal.nD Cert.SsmReferenceIdeal.τ Cert.SsmReferenceIdeal.sig) → Buf (Elt Ideal) ℓ) (g : Dev Cert.SsmReferenceIdeal.nD → PrngReg), Pre_SsmReferenceIdeal m →
    θ_run (Cert.SsmReferenceIdeal.defs (F := Ideal)) (onTc (τ := Cert.SsmReferenceIdeal.τ) (Cert.SsmReferenceIdeal.main (F := Ideal))) ⟨m, fun _ => 0, g⟩ (fun r => (∀ c : Dev Cert.SsmReferenceIdeal.nD,
      r.2.mem ((c.tc : Thread Cert.SsmReferenceIdeal.nD Cert.SsmReferenceIdeal.τ).loc Cert.SsmReferenceIdeal.main_arg0) = m ((c.tc : Thread Cert.SsmReferenceIdeal.nD Cert.SsmReferenceIdeal.τ).loc Cert.SsmReferenceIdeal.main_arg0)
      ∧ r.2.mem ((c.tc : Thread Cert.SsmReferenceIdeal.nD Cert.SsmReferenceIdeal.τ).loc Cert.SsmReferenceIdeal.main_arg1) = m ((c.tc : Thread Cert.SsmReferenceIdeal.nD Cert.SsmReferenceIdeal.τ).loc Cert.SsmReferenceIdeal.main_arg1)
      ∧ r.2.mem ((c.tc : Thread Cert.SsmReferenceIdeal.nD Cert.SsmReferenceIdeal.τ).loc Cert.SsmReferenceIdeal.main_arg2) = m ((c.tc : Thread Cert.SsmReferenceIdeal.nD Cert.SsmReferenceIdeal.τ).loc Cert.SsmReferenceIdeal.main_arg2))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaReferenceIdeal [hSwaReferenceIdeal : Cert.SwaReferenceIdeal.Facts] : Prop :=
  ∀ (m : (ℓ : Loc Cert.SwaReferenceIdeal.nD Cert.SwaReferenceIdeal.τ Cert.SwaReferenceIdeal.sig) → Buf (Elt Ideal) ℓ) (g : Dev Cert.SwaReferenceIdeal.nD → PrngReg), Pre_SwaReferenceIdeal m →
    θ_run (Cert.SwaReferenceIdeal.defs (F := Ideal)) (onTc (τ := Cert.SwaReferenceIdeal.τ) (Cert.SwaReferenceIdeal.main (F := Ideal))) ⟨m, fun _ => 0, g⟩ (fun r => (∀ c : Dev Cert.SwaReferenceIdeal.nD,
      r.2.mem ((c.tc : Thread Cert.SwaReferenceIdeal.nD Cert.SwaReferenceIdeal.τ).loc Cert.SwaReferenceIdeal.main_arg0) = m ((c.tc : Thread Cert.SwaReferenceIdeal.nD Cert.SwaReferenceIdeal.τ).loc Cert.SwaReferenceIdeal.main_arg0)
      ∧ r.2.mem ((c.tc : Thread Cert.SwaReferenceIdeal.nD Cert.SwaReferenceIdeal.τ).loc Cert.SwaReferenceIdeal.main_arg1) = m ((c.tc : Thread Cert.SwaReferenceIdeal.nD Cert.SwaReferenceIdeal.τ).loc Cert.SwaReferenceIdeal.main_arg1)
      ∧ r.2.mem ((c.tc : Thread Cert.SwaReferenceIdeal.nD Cert.SwaReferenceIdeal.τ).loc Cert.SwaReferenceIdeal.main_arg2) = m ((c.tc : Thread Cert.SwaReferenceIdeal.nD Cert.SwaReferenceIdeal.τ).loc Cert.SwaReferenceIdeal.main_arg2))
      ∧ r.2.sem = fun _ => 0)

def quiescent_Dil [hDil : Cert.Dil.Facts] : Prop :=
  ∀ (m : (ℓ : Loc Cert.Dil.nD Cert.Dil.τ Cert.Dil.sig) → Buf (Elt Bits) ℓ) (g : Dev Cert.Dil.nD → PrngReg), Pre_Dil m →
    θ_run (Cert.Dil.defs (F := Bits)) (onTc (τ := Cert.Dil.τ) (Cert.Dil.main (F := Bits))) ⟨m, fun _ => 0, g⟩ (fun r => (∀ c : Dev Cert.Dil.nD,
      r.2.mem ((c.tc : Thread Cert.Dil.nD Cert.Dil.τ).loc Cert.Dil.main_arg0) = m ((c.tc : Thread Cert.Dil.nD Cert.Dil.τ).loc Cert.Dil.main_arg0)
      ∧ r.2.mem ((c.tc : Thread Cert.Dil.nD Cert.Dil.τ).loc Cert.Dil.main_arg1) = m ((c.tc : Thread Cert.Dil.nD Cert.Dil.τ).loc Cert.Dil.main_arg1)
      ∧ r.2.mem ((c.tc : Thread Cert.Dil.nD Cert.Dil.τ).loc Cert.Dil.main_arg2) = m ((c.tc : Thread Cert.Dil.nD Cert.Dil.τ).loc Cert.Dil.main_arg2))
      ∧ r.2.sem = fun _ => 0)

def quiescent_DilIdeal [hDilIdeal : Cert.DilIdeal.Facts] : Prop :=
  ∀ (m : (ℓ : Loc Cert.DilIdeal.nD Cert.DilIdeal.τ Cert.DilIdeal.sig) → Buf (Elt Ideal) ℓ) (g : Dev Cert.DilIdeal.nD → PrngReg), Pre_DilIdeal m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0)
      ∧ r.2.mem ((c.tc : Thread Cert.DilIdeal.nD Cert.DilIdeal.τ).loc Cert.DilIdeal.main_arg1) = m ((c.tc : Thread Cert.DilIdeal.nD Cert.DilIdeal.τ).loc Cert.DilIdeal.main_arg1)
      ∧ r.2.mem ((c.tc : Thread Cert.DilIdeal.nD Cert.DilIdeal.τ).loc Cert.DilIdeal.main_arg2) = m ((c.tc : Thread Cert.DilIdeal.nD Cert.DilIdeal.τ).loc Cert.DilIdeal.main_arg2))
      ∧ r.2.sem = fun _ => 0)

def quiescent_DilReferenceIdeal [hDilReferenceIdeal : Cert.DilReferenceIdeal.Facts] : Prop :=
  ∀ (m : (ℓ : Loc Cert.DilReferenceIdeal.nD Cert.DilReferenceIdeal.τ Cert.DilReferenceIdeal.sig) → Buf (Elt Ideal) ℓ) (g : Dev Cert.DilReferenceIdeal.nD → PrngReg), Pre_DilReferenceIdeal m →
    θ_run (Cert.DilReferenceIdeal.defs (F := Ideal)) (onTc (τ := Cert.DilReferenceIdeal.τ) (Cert.DilReferenceIdeal.main (F := Ideal))) ⟨m, fun _ => 0, g⟩ (fun r => (∀ c : Dev Cert.DilReferenceIdeal.nD,
      r.2.mem ((c.tc : Thread Cert.DilReferenceIdeal.nD Cert.DilReferenceIdeal.τ).loc Cert.DilReferenceIdeal.main_arg0) = m ((c.tc : Thread Cert.DilReferenceIdeal.nD Cert.DilReferenceIdeal.τ).loc Cert.DilReferenceIdeal.main_arg0)
      ∧ r.2.mem ((c.tc : Thread Cert.DilReferenceIdeal.nD Cert.DilReferenceIdeal.τ).loc Cert.DilReferenceIdeal.main_arg1) = m ((c.tc : Thread Cert.DilReferenceIdeal.nD Cert.DilReferenceIdeal.τ).loc Cert.DilReferenceIdeal.main_arg1)
      ∧ r.2.mem ((c.tc : Thread Cert.DilReferenceIdeal.nD Cert.DilReferenceIdeal.τ).loc Cert.DilReferenceIdeal.main_arg2) = m ((c.tc : Thread Cert.DilReferenceIdeal.nD Cert.DilReferenceIdeal.τ).loc Cert.DilReferenceIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7)
      ∧ r.2.mem ((c.tc : Thread Cert.MixerReferenceIdeal.nD Cert.MixerReferenceIdeal.τ).loc Cert.MixerReferenceIdeal.main_arg8) = m ((c.tc : Thread Cert.MixerReferenceIdeal.nD Cert.MixerReferenceIdeal.τ).loc Cert.MixerReferenceIdeal.main_arg8))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ssm_SsmIdeal : Prop :=
  True

def algebraic_SsmIdeal_SsmReferenceIdeal [hSsmIdeal : Cert.SsmIdeal.Facts] [hSsmReferenceIdeal : Cert.SsmReferenceIdeal.Facts] : Prop :=
  ∀ (m : (ℓ : Loc Cert.SsmIdeal.nD Cert.SsmIdeal.τ Cert.SsmIdeal.sig) → Buf (Elt Ideal) ℓ) (g : Dev Cert.SsmIdeal.nD → PrngReg)
    (m' : (ℓ : Loc Cert.SsmReferenceIdeal.nD Cert.SsmReferenceIdeal.τ Cert.SsmReferenceIdeal.sig) → Buf (Elt Ideal) ℓ) (g' : Dev Cert.SsmReferenceIdeal.nD → PrngReg), Pre_SsmIdeal m →
    (∀ c : Dev Cert.SsmIdeal.nD,
      m' ((c.tc : Thread Cert.SsmReferenceIdeal.nD Cert.SsmReferenceIdeal.τ).loc Cert.SsmReferenceIdeal.main_arg0) = m ((c.tc : Thread Cert.SsmIdeal.nD Cert.SsmIdeal.τ).loc Cert.SsmIdeal.main_arg0)
      ∧ m' ((c.tc : Thread Cert.SsmReferenceIdeal.nD Cert.SsmReferenceIdeal.τ).loc Cert.SsmReferenceIdeal.main_arg1) = m ((c.tc : Thread Cert.SsmIdeal.nD Cert.SsmIdeal.τ).loc Cert.SsmIdeal.main_arg1)
      ∧ m' ((c.tc : Thread Cert.SsmReferenceIdeal.nD Cert.SsmReferenceIdeal.τ).loc Cert.SsmReferenceIdeal.main_arg2) = m ((c.tc : Thread Cert.SsmIdeal.nD Cert.SsmIdeal.τ).loc Cert.SsmIdeal.main_arg2)) →
    ∃ (v0 : (c : Dev Cert.SsmIdeal.nD) → Buf (Elt Ideal) ((c.tc : Thread Cert.SsmIdeal.nD Cert.SsmIdeal.τ).loc Cert.SsmIdeal.main_v4)),
      θ_run (Cert.SsmIdeal.defs (F := Ideal)) (onTc (τ := Cert.SsmIdeal.τ) (Cert.SsmIdeal.main (F := Ideal))) ⟨m, fun _ => 0, g⟩ (fun r => ∀ c : Dev Cert.SsmIdeal.nD,
          r.2.mem ((c.tc : Thread Cert.SsmIdeal.nD Cert.SsmIdeal.τ).loc Cert.SsmIdeal.main_v4) = v0 c
          ∧ r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
          ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
          ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2))
      ∧ θ_run (Cert.SsmReferenceIdeal.defs (F := Ideal)) (onTc (τ := Cert.SsmReferenceIdeal.τ) (Cert.SsmReferenceIdeal.main (F := Ideal))) ⟨m', fun _ => 0, g'⟩ (fun r => ∀ c : Dev Cert.SsmReferenceIdeal.nD,
          r.2.mem ((c.tc : Thread Cert.SsmReferenceIdeal.nD Cert.SsmReferenceIdeal.τ).loc Cert.SsmReferenceIdeal.main_v15) = v0 c
          ∧ r.2.mem ((c.tc : Thread Cert.SsmReferenceIdeal.nD Cert.SsmReferenceIdeal.τ).loc Cert.SsmReferenceIdeal.main_arg0) = m' ((c.tc : Thread Cert.SsmReferenceIdeal.nD Cert.SsmReferenceIdeal.τ).loc Cert.SsmReferenceIdeal.main_arg0)
          ∧ r.2.mem ((c.tc : Thread Cert.SsmReferenceIdeal.nD Cert.SsmReferenceIdeal.τ).loc Cert.SsmReferenceIdeal.main_arg1) = m' ((c.tc : Thread Cert.SsmReferenceIdeal.nD Cert.SsmReferenceIdeal.τ).loc Cert.SsmReferenceIdeal.main_arg1)
          ∧ r.2.mem ((c.tc : Thread Cert.SsmReferenceIdeal.nD Cert.SsmReferenceIdeal.τ).loc Cert.SsmReferenceIdeal.main_arg2) = m' ((c.tc : Thread Cert.SsmReferenceIdeal.nD Cert.SsmReferenceIdeal.τ).loc Cert.SsmReferenceIdeal.main_arg2))

def preserves_Swa_SwaIdeal : Prop :=
  True

def algebraic_SwaIdeal_SwaReferenceIdeal [hSwaIdeal : Cert.SwaIdeal.Facts] [hSwaReferenceIdeal : Cert.SwaReferenceIdeal.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaReferenceIdeal.nD Cert.SwaReferenceIdeal.τ Cert.SwaReferenceIdeal.sig) → Buf (Elt Ideal) ℓ) (g' : Dev Cert.SwaReferenceIdeal.nD → PrngReg), Pre_SwaIdeal m →
    (∀ c : Dev Cert.SwaIdeal.nD,
      m' ((c.tc : Thread Cert.SwaReferenceIdeal.nD Cert.SwaReferenceIdeal.τ).loc Cert.SwaReferenceIdeal.main_arg0) = m ((c.tc : Thread Cert.SwaIdeal.nD Cert.SwaIdeal.τ).loc Cert.SwaIdeal.main_arg0)
      ∧ m' ((c.tc : Thread Cert.SwaReferenceIdeal.nD Cert.SwaReferenceIdeal.τ).loc Cert.SwaReferenceIdeal.main_arg1) = m ((c.tc : Thread Cert.SwaIdeal.nD Cert.SwaIdeal.τ).loc Cert.SwaIdeal.main_arg1)
      ∧ m' ((c.tc : Thread Cert.SwaReferenceIdeal.nD Cert.SwaReferenceIdeal.τ).loc Cert.SwaReferenceIdeal.main_arg2) = m ((c.tc : Thread Cert.SwaIdeal.nD Cert.SwaIdeal.τ).loc Cert.SwaIdeal.main_arg2)) →
    ∃ (v0 : (c : Dev Cert.SwaIdeal.nD) → Buf (Elt Ideal) ((c.tc : Thread Cert.SwaIdeal.nD Cert.SwaIdeal.τ).loc Cert.SwaIdeal.main_v3)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v3) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ θ_run (Cert.SwaReferenceIdeal.defs (F := Ideal)) (onTc (τ := Cert.SwaReferenceIdeal.τ) (Cert.SwaReferenceIdeal.main (F := Ideal))) ⟨m', fun _ => 0, g'⟩ (fun r => ∀ c : Dev Cert.SwaReferenceIdeal.nD,
          r.2.mem ((c.tc : Thread Cert.SwaReferenceIdeal.nD Cert.SwaReferenceIdeal.τ).loc Cert.SwaReferenceIdeal.main_v14) = v0 c
          ∧ r.2.mem ((c.tc : Thread Cert.SwaReferenceIdeal.nD Cert.SwaReferenceIdeal.τ).loc Cert.SwaReferenceIdeal.main_arg0) = m' ((c.tc : Thread Cert.SwaReferenceIdeal.nD Cert.SwaReferenceIdeal.τ).loc Cert.SwaReferenceIdeal.main_arg0)
          ∧ r.2.mem ((c.tc : Thread Cert.SwaReferenceIdeal.nD Cert.SwaReferenceIdeal.τ).loc Cert.SwaReferenceIdeal.main_arg1) = m' ((c.tc : Thread Cert.SwaReferenceIdeal.nD Cert.SwaReferenceIdeal.τ).loc Cert.SwaReferenceIdeal.main_arg1)
          ∧ r.2.mem ((c.tc : Thread Cert.SwaReferenceIdeal.nD Cert.SwaReferenceIdeal.τ).loc Cert.SwaReferenceIdeal.main_arg2) = m' ((c.tc : Thread Cert.SwaReferenceIdeal.nD Cert.SwaReferenceIdeal.τ).loc Cert.SwaReferenceIdeal.main_arg2))

def preserves_Dil_DilIdeal : Prop :=
  True

def algebraic_DilIdeal_DilReferenceIdeal [hDilIdeal : Cert.DilIdeal.Facts] [hDilReferenceIdeal : Cert.DilReferenceIdeal.Facts] : Prop :=
  ∀ (m : (ℓ : Loc Cert.DilIdeal.nD Cert.DilIdeal.τ Cert.DilIdeal.sig) → Buf (Elt Ideal) ℓ) (g : Dev Cert.DilIdeal.nD → PrngReg)
    (m' : (ℓ : Loc Cert.DilReferenceIdeal.nD Cert.DilReferenceIdeal.τ Cert.DilReferenceIdeal.sig) → Buf (Elt Ideal) ℓ) (g' : Dev Cert.DilReferenceIdeal.nD → PrngReg), Pre_DilIdeal m →
    (∀ c : Dev Cert.DilIdeal.nD,
      m' ((c.tc : Thread Cert.DilReferenceIdeal.nD Cert.DilReferenceIdeal.τ).loc Cert.DilReferenceIdeal.main_arg0) = m ((c.tc : Thread Cert.DilIdeal.nD Cert.DilIdeal.τ).loc Cert.DilIdeal.main_arg0)
      ∧ m' ((c.tc : Thread Cert.DilReferenceIdeal.nD Cert.DilReferenceIdeal.τ).loc Cert.DilReferenceIdeal.main_arg1) = m ((c.tc : Thread Cert.DilIdeal.nD Cert.DilIdeal.τ).loc Cert.DilIdeal.main_arg1)
      ∧ m' ((c.tc : Thread Cert.DilReferenceIdeal.nD Cert.DilReferenceIdeal.τ).loc Cert.DilReferenceIdeal.main_arg2) = m ((c.tc : Thread Cert.DilIdeal.nD Cert.DilIdeal.τ).loc Cert.DilIdeal.main_arg2)) →
    ∃ (v0 : (c : Dev Cert.DilIdeal.nD) → Buf (Elt Ideal) ((c.tc : Thread Cert.DilIdeal.nD Cert.DilIdeal.τ).loc Cert.DilIdeal.main_v3)),
      θ_run (Cert.DilIdeal.defs (F := Ideal)) (onTc (τ := Cert.DilIdeal.τ) (Cert.DilIdeal.main (F := Ideal))) ⟨m, fun _ => 0, g⟩ (fun r => ∀ c : Dev Cert.DilIdeal.nD,
          r.2.mem ((c.tc : Thread Cert.DilIdeal.nD Cert.DilIdeal.τ).loc Cert.DilIdeal.main_v3) = v0 c
          ∧ r.2.mem ((c.tc : Thread Cert.DilIdeal.nD Cert.DilIdeal.τ).loc Cert.DilIdeal.main_arg0) = m ((c.tc : Thread Cert.DilIdeal.nD Cert.DilIdeal.τ).loc Cert.DilIdeal.main_arg0)
          ∧ r.2.mem ((c.tc : Thread Cert.DilIdeal.nD Cert.DilIdeal.τ).loc Cert.DilIdeal.main_arg1) = m ((c.tc : Thread Cert.DilIdeal.nD Cert.DilIdeal.τ).loc Cert.DilIdeal.main_arg1)
          ∧ r.2.mem ((c.tc : Thread Cert.DilIdeal.nD Cert.DilIdeal.τ).loc Cert.DilIdeal.main_arg2) = m ((c.tc : Thread Cert.DilIdeal.nD Cert.DilIdeal.τ).loc Cert.DilIdeal.main_arg2))
      ∧ θ_run (Cert.DilReferenceIdeal.defs (F := Ideal)) (onTc (τ := Cert.DilReferenceIdeal.τ) (Cert.DilReferenceIdeal.main (F := Ideal))) ⟨m', fun _ => 0, g'⟩ (fun r => ∀ c : Dev Cert.DilReferenceIdeal.nD,
          r.2.mem ((c.tc : Thread Cert.DilReferenceIdeal.nD Cert.DilReferenceIdeal.τ).loc Cert.DilReferenceIdeal.main_v14) = v0 c
          ∧ r.2.mem ((c.tc : Thread Cert.DilReferenceIdeal.nD Cert.DilReferenceIdeal.τ).loc Cert.DilReferenceIdeal.main_arg0) = m' ((c.tc : Thread Cert.DilReferenceIdeal.nD Cert.DilReferenceIdeal.τ).loc Cert.DilReferenceIdeal.main_arg0)
          ∧ r.2.mem ((c.tc : Thread Cert.DilReferenceIdeal.nD Cert.DilReferenceIdeal.τ).loc Cert.DilReferenceIdeal.main_arg1) = m' ((c.tc : Thread Cert.DilReferenceIdeal.nD Cert.DilReferenceIdeal.τ).loc Cert.DilReferenceIdeal.main_arg1)
          ∧ r.2.mem ((c.tc : Thread Cert.DilReferenceIdeal.nD Cert.DilReferenceIdeal.τ).loc Cert.DilReferenceIdeal.main_arg2) = m' ((c.tc : Thread Cert.DilReferenceIdeal.nD Cert.DilReferenceIdeal.τ).loc Cert.DilReferenceIdeal.main_arg2))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v3)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v3) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v14) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2))

def preserves_Mixer_MixerIdeal : Prop :=
  True

def algebraic_MixerIdeal_MixerReferenceIdeal [hMixerIdeal : Cert.MixerIdeal.Facts] [hMixerReferenceIdeal : Cert.MixerReferenceIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerIdeal m →
    (∀ c : Dev Cert.MixerIdeal.nD,
      m' ((c.tc : Thread Cert.MixerReferenceIdeal.nD Cert.MixerReferenceIdeal.τ).loc Cert.MixerReferenceIdeal.main_arg0) = m ((c.tc : Thread Cert.MixerIdeal.nD Cert.MixerIdeal.τ).loc Cert.MixerIdeal.main_arg0)
      ∧ m' ((c.tc : Thread Cert.MixerReferenceIdeal.nD Cert.MixerReferenceIdeal.τ).loc Cert.MixerReferenceIdeal.main_arg1) = m ((c.tc : Thread Cert.MixerIdeal.nD Cert.MixerIdeal.τ).loc Cert.MixerIdeal.main_arg1)
      ∧ m' ((c.tc : Thread Cert.MixerReferenceIdeal.nD Cert.MixerReferenceIdeal.τ).loc Cert.MixerReferenceIdeal.main_arg2) = m ((c.tc : Thread Cert.MixerIdeal.nD Cert.MixerIdeal.τ).loc Cert.MixerIdeal.main_arg2)
      ∧ m' ((c.tc : Thread Cert.MixerReferenceIdeal.nD Cert.MixerReferenceIdeal.τ).loc Cert.MixerReferenceIdeal.main_arg3) = m ((c.tc : Thread Cert.MixerIdeal.nD Cert.MixerIdeal.τ).loc Cert.MixerIdeal.main_arg3)
      ∧ m' ((c.tc : Thread Cert.MixerReferenceIdeal.nD Cert.MixerReferenceIdeal.τ).loc Cert.MixerReferenceIdeal.main_arg4) = m ((c.tc : Thread Cert.MixerIdeal.nD Cert.MixerIdeal.τ).loc Cert.MixerIdeal.main_arg4)
      ∧ m' ((c.tc : Thread Cert.MixerReferenceIdeal.nD Cert.MixerReferenceIdeal.τ).loc Cert.MixerReferenceIdeal.main_arg5) = m ((c.tc : Thread Cert.MixerIdeal.nD Cert.MixerIdeal.τ).loc Cert.MixerIdeal.main_arg5)
      ∧ m' ((c.tc : Thread Cert.MixerReferenceIdeal.nD Cert.MixerReferenceIdeal.τ).loc Cert.MixerReferenceIdeal.main_arg6) = m ((c.tc : Thread Cert.MixerIdeal.nD Cert.MixerIdeal.τ).loc Cert.MixerIdeal.main_arg6)
      ∧ m' ((c.tc : Thread Cert.MixerReferenceIdeal.nD Cert.MixerReferenceIdeal.τ).loc Cert.MixerReferenceIdeal.main_arg7) = m ((c.tc : Thread Cert.MixerIdeal.nD Cert.MixerIdeal.τ).loc Cert.MixerIdeal.main_arg7)
      ∧ m' ((c.tc : Thread Cert.MixerReferenceIdeal.nD Cert.MixerReferenceIdeal.τ).loc Cert.MixerReferenceIdeal.main_arg8) = m ((c.tc : Thread Cert.MixerIdeal.nD Cert.MixerIdeal.τ).loc Cert.MixerIdeal.main_arg8)) →
    ∃ (v0 : (c : Dev Cert.MixerIdeal.nD) → Buf (Elt Ideal) ((c.tc : Thread Cert.MixerIdeal.nD Cert.MixerIdeal.τ).loc Cert.MixerIdeal.main_v4)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v4) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v22) = v0 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2)
          ∧ r.2.mem ((c.tc : Thread Cert.MixerReferenceIdeal.nD Cert.MixerReferenceIdeal.τ).loc Cert.MixerReferenceIdeal.main_arg3) = m' ((c.tc : Thread Cert.MixerReferenceIdeal.nD Cert.MixerReferenceIdeal.τ).loc Cert.MixerReferenceIdeal.main_arg3)
          ∧ r.2.mem ((c.tc : Thread Cert.MixerReferenceIdeal.nD Cert.MixerReferenceIdeal.τ).loc Cert.MixerReferenceIdeal.main_arg4) = m' ((c.tc : Thread Cert.MixerReferenceIdeal.nD Cert.MixerReferenceIdeal.τ).loc Cert.MixerReferenceIdeal.main_arg4)
          ∧ r.2.mem ((c.tc : Thread Cert.MixerReferenceIdeal.nD Cert.MixerReferenceIdeal.τ).loc Cert.MixerReferenceIdeal.main_arg5) = m' ((c.tc : Thread Cert.MixerReferenceIdeal.nD Cert.MixerReferenceIdeal.τ).loc Cert.MixerReferenceIdeal.main_arg5)
          ∧ r.2.mem ((c.tc : Thread Cert.MixerReferenceIdeal.nD Cert.MixerReferenceIdeal.τ).loc Cert.MixerReferenceIdeal.main_arg6) = m' ((c.tc : Thread Cert.MixerReferenceIdeal.nD Cert.MixerReferenceIdeal.τ).loc Cert.MixerReferenceIdeal.main_arg6)
          ∧ r.2.mem ((c.tc : Thread Cert.MixerReferenceIdeal.nD Cert.MixerReferenceIdeal.τ).loc Cert.MixerReferenceIdeal.main_arg7) = m' ((c.tc : Thread Cert.MixerReferenceIdeal.nD Cert.MixerReferenceIdeal.τ).loc Cert.MixerReferenceIdeal.main_arg7)
          ∧ r.2.mem ((c.tc : Thread Cert.MixerReferenceIdeal.nD Cert.MixerReferenceIdeal.τ).loc Cert.MixerReferenceIdeal.main_arg8) = m' ((c.tc : Thread Cert.MixerReferenceIdeal.nD Cert.MixerReferenceIdeal.τ).loc Cert.MixerReferenceIdeal.main_arg8))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v20) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5))

def Claim : Prop :=
  ∃ (hKernel : Cert.Kernel.Facts) (hKernelIdeal : Cert.KernelIdeal.Facts) (hReferenceIdeal : Cert.ReferenceIdeal.Facts) (hSsm : Cert.Ssm.Facts) (hSsmIdeal : Cert.SsmIdeal.Facts) (hSsmReferenceIdeal : Cert.SsmReferenceIdeal.Facts) (hSwa : Cert.Swa.Facts) (hSwaIdeal : Cert.SwaIdeal.Facts) (hSwaReferenceIdeal : Cert.SwaReferenceIdeal.Facts) (hDil : Cert.Dil.Facts) (hDilIdeal : Cert.DilIdeal.Facts) (hDilReferenceIdeal : Cert.DilReferenceIdeal.Facts) (hGates : Cert.Gates.Facts) (hGatesIdeal : Cert.GatesIdeal.Facts) (hGatesReferenceIdeal : Cert.GatesReferenceIdeal.Facts) (hMixer : Cert.Mixer.Facts) (hMixerIdeal : Cert.MixerIdeal.Facts) (hMixerReferenceIdeal : Cert.MixerReferenceIdeal.Facts) (hMerge : Cert.Merge.Facts) (hMergeIdeal : Cert.MergeIdeal.Facts) (hMergeReferenceIdeal : Cert.MergeReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ssm (hSsm := hSsm)
    ∧ quiescent_SsmIdeal (hSsmIdeal := hSsmIdeal)
    ∧ quiescent_SsmReferenceIdeal (hSsmReferenceIdeal := hSsmReferenceIdeal)
    ∧ quiescent_Swa (hSwa := hSwa)
    ∧ quiescent_SwaIdeal (hSwaIdeal := hSwaIdeal)
    ∧ quiescent_SwaReferenceIdeal (hSwaReferenceIdeal := hSwaReferenceIdeal)
    ∧ quiescent_Dil (hDil := hDil)
    ∧ quiescent_DilIdeal (hDilIdeal := hDilIdeal)
    ∧ quiescent_DilReferenceIdeal (hDilReferenceIdeal := hDilReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Mixer (hMixer := hMixer)
    ∧ quiescent_MixerIdeal (hMixerIdeal := hMixerIdeal)
    ∧ quiescent_MixerReferenceIdeal (hMixerReferenceIdeal := hMixerReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ preserves_Kernel_KernelIdeal
    ∧ algebraic_KernelIdeal_ReferenceIdeal (hKernelIdeal := hKernelIdeal) (hReferenceIdeal := hReferenceIdeal)
    ∧ preserves_Ssm_SsmIdeal
    ∧ algebraic_SsmIdeal_SsmReferenceIdeal (hSsmIdeal := hSsmIdeal) (hSsmReferenceIdeal := hSsmReferenceIdeal)
    ∧ preserves_Swa_SwaIdeal
    ∧ algebraic_SwaIdeal_SwaReferenceIdeal (hSwaIdeal := hSwaIdeal) (hSwaReferenceIdeal := hSwaReferenceIdeal)
    ∧ preserves_Dil_DilIdeal
    ∧ algebraic_DilIdeal_DilReferenceIdeal (hDilIdeal := hDilIdeal) (hDilReferenceIdeal := hDilReferenceIdeal)
    ∧ preserves_Gates_GatesIdeal
    ∧ algebraic_GatesIdeal_GatesReferenceIdeal (hGatesIdeal := hGatesIdeal) (hGatesReferenceIdeal := hGatesReferenceIdeal)
    ∧ preserves_Mixer_MixerIdeal
    ∧ algebraic_MixerIdeal_MixerReferenceIdeal (hMixerIdeal := hMixerIdeal) (hMixerReferenceIdeal := hMixerReferenceIdeal)
    ∧ preserves_Merge_MergeIdeal
    ∧ algebraic_MergeIdeal_MergeReferenceIdeal (hMergeIdeal := hMergeIdeal) (hMergeReferenceIdeal := hMergeReferenceIdeal)
-- ==== Kernel.lean ====
abbrev S32768x1536 : Shape := ⟨2, ![32768, 1536]⟩
abbrev S64 : Shape := ⟨1, ![64]⟩
abbrev S16 : Shape := ⟨1, ![16]⟩
abbrev S32 : Shape := ⟨1, ![32]⟩
abbrev S_ : Shape := ⟨0, ![]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S32768x1024 : Shape := ⟨2, ![32768, 1024]⟩
abbrev S128x1024 : Shape := ⟨2, ![128, 1024]⟩
abbrev S128x256 : Shape := ⟨2, ![128, 256]⟩
abbrev S128x128 : Shape := ⟨2, ![128, 128]⟩
abbrev S128x1 : Shape := ⟨2, ![128, 1]⟩
abbrev S384x128 : Shape := ⟨2, ![384, 128]⟩
abbrev S384x256 : Shape := ⟨2, ![384, 256]⟩
abbrev S128x384 : Shape := ⟨2, ![128, 384]⟩
abbrev S1 : Shape := ⟨1, ![1]⟩

abbrev nBuf : Space → Nat
  | .hbm => 39
  | .vmem => 30
  | .smem => 1
  | _ => 0

abbrev bufTy : (tb : Table) → Fin (tcTables nBuf tb) → BufTy
  | .hbm, ⟨0, _⟩ => ⟨S32768x1536, .f32⟩
  | .hbm, ⟨1, _⟩ => ⟨S64, .f32⟩
  | .hbm, ⟨2, _⟩ => ⟨S64, .f32⟩
  | .hbm, ⟨3, _⟩ => ⟨S16, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S16384, .i32⟩
  | .hbm, ⟨13, _⟩ => ⟨S16384, .f32⟩
  | .hbm, ⟨14, _⟩ => ⟨S16384x1, .f32⟩
  | .hbm, ⟨15, _⟩ => ⟨S1x32, .f32⟩
  | .hbm, ⟨16, _⟩ => ⟨S16384x32, .f32⟩
  | .hbm, ⟨17, _⟩ => ⟨S16384x32, .f32⟩
  | .hbm, ⟨18, _⟩ => ⟨S16384x32, .f32⟩
  | .hbm, ⟨19, _⟩ => ⟨S16384x32, .f32⟩
  | .hbm, ⟨20, _⟩ => ⟨S16384x32, .f32⟩
  | .hbm, ⟨21, _⟩ => ⟨S16384x64, .f32⟩
  | .hbm, ⟨22, _⟩ => ⟨S1x16384x1x64, .f32⟩
  | .hbm, ⟨23, _⟩ => ⟨S1x16384x2x64, .f32⟩
  | .hbm, ⟨24, _⟩ => ⟨S16384x128, .f32⟩
  | .hbm, ⟨25, _⟩ => ⟨S16384x32, .f32⟩
  | .hbm, ⟨26, _⟩ => ⟨S16384x64, .f32⟩
  | .hbm, ⟨27, _⟩ => ⟨S1x16384x1x64, .f32⟩
  | .hbm, ⟨28, _⟩ => ⟨S1x16384x2x64, .f32⟩
  | .hbm, ⟨29, _⟩ => ⟨S16384x128, .f32⟩
  | .hbm, ⟨30, _⟩ => ⟨S1x64, .f32⟩
  | .hbm, ⟨31, _⟩ => ⟨S2x64, .f32⟩
  | .hbm, ⟨32, _⟩ => ⟨S128, .f32⟩
  | .hbm, ⟨33, _⟩ => ⟨S1x128, .f32⟩
  | .hbm, ⟨34, _⟩ => ⟨S1x64, .f32⟩
  | .hbm, ⟨35, _⟩ => ⟨S2x64, .f32⟩
  | .hbm, ⟨36, _⟩ => ⟨S128, .f32⟩
  | .hbm, ⟨37, _⟩ => ⟨S1x128, .f32⟩
  | .hbm, ⟨38, _⟩ => ⟨S32768x1024, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S1x128, .f32⟩
  | .local _ .vmem, ⟨27, _⟩ => ⟨S1x128, .f32⟩
  | .local _ .vmem, ⟨28, _⟩ => ⟨S128x1024, .f32⟩
  | .local _ .vmem, ⟨29, _⟩ => ⟨S128x1024, .f32⟩
  | .local _ .smem, ⟨0, _⟩ => ⟨S16, .f32⟩
  | _, _ => ⟨S32768x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem15_0 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨3, ![2, 1, 128], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg0 c128_i32
  let v1 : BitVec 32 := Scalar.addi v0 arg2
  let c1536_i32 : BitVec 32 := 1536#32
  let v2 : BitVec 32 := Scalar.muli arg1 c1536_i32
  let c0_i32 : BitVec 32 := 0#32
  let v3 : BitVec 32 := Scalar.addi v2 c0_i32
  let c1024_i32 : BitVec 32 := 1024#32
  let v4 : BitVec 32 := Scalar.divsi v3 c1024_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1024_i32 c0_i32_2
  let v11 : BitVec 32 := Scalar.extui v10
  let c0_i32_3 : BitVec 32 := 0#32
  let v12 : BitVec 1 := Scalar.cmpi .slt c1024_i32 c0_i32_3
  let v13 : BitVec 32 := Scalar.extui v12
  let v14 : BitVec 32 := Scalar.subi v11 v13
  let v15 : BitVec 1 := Scalar.cmpi .ne v9 v14
  let v16 : BitVec 32 := Scalar.remsi v3 c1024_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  ![v1.toNat, v20.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg0 c128_i32
  let c1_i32 : BitVec 32 := 1#32
  let v1 : BitVec 32 := Scalar.muli arg2 c1_i32
  let c1_i32_0 : BitVec 32 := 1#32
  let v2 : BitVec 32 := Scalar.subi v1 c1_i32_0
  let c0_i32 : BitVec 32 := 0#32
  let c127_i32 : BitVec 32 := 127#32
  let v3 : BitVec 32 := Scalar.maxsi c0_i32 v2
  let v4 : BitVec 32 := Scalar.minsi c127_i32 v3
  let v5 : BitVec 32 := Scalar.addi v0 v4
  let c1536_i32 : BitVec 32 := 1536#32
  let v6 : BitVec 32 := Scalar.muli arg1 c1536_i32
  let c1024_i32 : BitVec 32 := 1024#32
  let v7 : BitVec 32 := Scalar.addi v6 c1024_i32
  let c256_i32 : BitVec 32 := 256#32
  let v8 : BitVec 32 := Scalar.divsi v7 c256_i32
  let c0_i32_1 : BitVec 32 := 0#32
  let v9 : BitVec 1 := Scalar.cmpi .sgt v7 c0_i32_1
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v7 c256_i32
  let c0_i32_5 : BitVec 32 := 0#32
  let v21 : BitVec 1 := Scalar.cmpi .ne v20 c0_i32_5
  let v22 : BitVec 1 := Scalar.andi v19 v21
  let c1_i32_6 : BitVec 32 := 1#32
  let v23 : BitVec 32 := Scalar.subi v8 c1_i32_6
  let v24 : BitVec 32 := Scalar.select v22 v23 v8
  let c0_i32_7 : BitVec 32 := 0#32
  ![v5.toNat, v24.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg0 c128_i32
  let v1 : BitVec 32 := Scalar.addi v0 arg2
  let c1536_i32 : BitVec 32 := 1536#32
  let v2 : BitVec 32 := Scalar.muli arg1 c1536_i32
  let c1024_i32 : BitVec 32 := 1024#32
  let v3 : BitVec 32 := Scalar.addi v2 c1024_i32
  let c256_i32 : BitVec 32 := 256#32
  let v4 : BitVec 32 := Scalar.divsi v3 c256_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  ![v1.toNat, v20.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg0 c128_i32
  let c1_i32 : BitVec 32 := 1#32
  let v1 : BitVec 32 := Scalar.addi arg2 c1_i32
  let c1_i32_0 : BitVec 32 := 1#32
  let v2 : BitVec 32 := Scalar.muli v1 c1_i32_0
  let c0_i32 : BitVec 32 := 0#32
  let c127_i32 : BitVec 32 := 127#32
  let v3 : BitVec 32 := Scalar.maxsi c0_i32 v2
  let v4 : BitVec 32 := Scalar.minsi c127_i32 v3
  let v5 : BitVec 32 := Scalar.addi v0 v4
  let c1536_i32 : BitVec 32 := 1536#32
  let v6 : BitVec 32 := Scalar.muli arg1 c1536_i32
  let c1024_i32 : BitVec 32 := 1024#32
  let v7 : BitVec 32 := Scalar.addi v6 c1024_i32
  let c256_i32 : BitVec 32 := 256#32
  let v8 : BitVec 32 := Scalar.divsi v7 c256_i32
  let c0_i32_1 : BitVec 32 := 0#32
  let v9 : BitVec 1 := Scalar.cmpi .sgt v7 c0_i32_1
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v7 c256_i32
  let c0_i32_5 : BitVec 32 := 0#32
  let v21 : BitVec 1 := Scalar.cmpi .ne v20 c0_i32_5
  let v22 : BitVec 1 := Scalar.andi v19 v21
  let c1_i32_6 : BitVec 32 := 1#32
  let v23 : BitVec 32 := Scalar.subi v8 c1_i32_6
  let v24 : BitVec 32 := Scalar.select v22 v23 v8
  let c0_i32_7 : BitVec 32 := 0#32
  ![v5.toNat, v24.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg0 c128_i32
  let c1_i32 : BitVec 32 := 1#32
  let v1 : BitVec 32 := Scalar.muli arg2 c1_i32
  let c1_i32_0 : BitVec 32 := 1#32
  let v2 : BitVec 32 := Scalar.subi v1 c1_i32_0
  let c0_i32 : BitVec 32 := 0#32
  let c127_i32 : BitVec 32 := 127#32
  let v3 : BitVec 32 := Scalar.maxsi c0_i32 v2
  let v4 : BitVec 32 := Scalar.minsi c127_i32 v3
  let v5 : BitVec 32 := Scalar.addi v0 v4
  let c1536_i32 : BitVec 32 := 1536#32
  let v6 : BitVec 32 := Scalar.muli arg1 c1536_i32
  let c1280_i32 : BitVec 32 := 1280#32
  let v7 : BitVec 32 := Scalar.addi v6 c1280_i32
  let c256_i32 : BitVec 32 := 256#32
  let v8 : BitVec 32 := Scalar.divsi v7 c256_i32
  let c0_i32_1 : BitVec 32 := 0#32
  let v9 : BitVec 1 := Scalar.cmpi .sgt v7 c0_i32_1
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v7 c256_i32
  let c0_i32_5 : BitVec 32 := 0#32
  let v21 : BitVec 1 := Scalar.cmpi .ne v20 c0_i32_5
  let v22 : BitVec 1 := Scalar.andi v19 v21
  let c1_i32_6 : BitVec 32 := 1#32
  let v23 : BitVec 32 := Scalar.subi v8 c1_i32_6
  let v24 : BitVec 32 := Scalar.select v22 v23 v8
  let c0_i32_7 : BitVec 32 := 0#32
  ![v5.toNat, v24.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg0 c128_i32
  let v1 : BitVec 32 := Scalar.addi v0 arg2
  let c1536_i32 : BitVec 32 := 1536#32
  let v2 : BitVec 32 := Scalar.muli arg1 c1536_i32
  let c1280_i32 : BitVec 32 := 1280#32
  let v3 : BitVec 32 := Scalar.addi v2 c1280_i32
  let c256_i32 : BitVec 32 := 256#32
  let v4 : BitVec 32 := Scalar.divsi v3 c256_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c256_i32 c0_i32_1
  let v11 : BitVec 32 := Scalar.extui v10
  let c0_i32_2 : BitVec 32 := 0#32
  let v12 : BitVec 1 := Scalar.cmpi .slt c256_i32 c0_i32_2
  let v13 : BitVec 32 := Scalar.extui v12
  let v14 : BitVec 32 := Scalar.subi v11 v13
  let v15 : BitVec 1 := Scalar.cmpi .ne v9 v14
  let v16 : BitVec 32 := Scalar.remsi v3 c256_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  ![v1.toNat, v20.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg0 c128_i32
  let c1_i32 : BitVec 32 := 1#32
  let v1 : BitVec 32 := Scalar.addi arg2 c1_i32
  let c1_i32_0 : BitVec 32 := 1#32
  let v2 : BitVec 32 := Scalar.muli v1 c1_i32_0
  let c0_i32 : BitVec 32 := 0#32
  let c127_i32 : BitVec 32 := 127#32
  let v3 : BitVec 32 := Scalar.maxsi c0_i32 v2
  let v4 : BitVec 32 := Scalar.minsi c127_i32 v3
  let v5 : BitVec 32 := Scalar.addi v0 v4
  let c1536_i32 : BitVec 32 := 1536#32
  let v6 : BitVec 32 := Scalar.muli arg1 c1536_i32
  let c1280_i32 : BitVec 32 := 1280#32
  let v7 : BitVec 32 := Scalar.addi v6 c1280_i32
  let c256_i32 : BitVec 32 := 256#32
  let v8 : BitVec 32 := Scalar.divsi v7 c256_i32
  let c0_i32_1 : BitVec 32 := 0#32
  let v9 : BitVec 1 := Scalar.cmpi .sgt v7 c0_i32_1
  let v10 : BitVec 32 := Scalar.extui v9
  let c0_i32_2 : BitVec 32 := 0#32
  let v11 : BitVec 1 := Scalar.cmpi .slt v7 c0_i32_2
  let v12 : BitVec 32 := Scalar.extui v11
  let v13 : BitVec 32 := Scalar.subi v10 v12
  let c0_i32_3 : BitVec 32 := 0#32
  let v14 : BitVec 1 := Scalar.cmpi .sgt c256_i32 c0_i32_3
  let v15 : BitVec 32 := Scalar.extui v14
  let c0_i32_4 : BitVec 32 := 0#32
  let v16 : BitVec 1 := Scalar.cmpi .slt c256_i32 c0_i32_4
  let v17 : BitVec 32 := Scalar.extui v16
  let v18 : BitVec 32 := Scalar.subi v15 v17
  let v19 : BitVec 1 := Scalar.cmpi .ne v13 v18
  let v20 : BitVec 32 := Scalar.remsi v7 c256_i32
  let c0_i32_5 : BitVec 32 := 0#32
  let v21 : BitVec 1 := Scalar.cmpi .ne v20 c0_i32_5
  let v22 : BitVec 1 := Scalar.andi v19 v21
  let c1_i32_6 : BitVec 32 := 1#32
  let v23 : BitVec 32 := Scalar.subi v8 c1_i32_6
  let v24 : BitVec 32 := Scalar.select v22 v23 v8
  let c0_i32_7 : BitVec 32 := 0#32
  ![v5.toNat, v24.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c1_i32_0 : BitVec 32 := 1#32
  let v1 : BitVec 32 := Scalar.subi v0 c1_i32_0
  let c0_i32 : BitVec 32 := 0#32
  let c127_i32 : BitVec 32 := 127#32
  let v2 : BitVec 32 := Scalar.maxsi c0_i32 v1
  let v3 : BitVec 32 := Scalar.minsi c127_i32 v2
  let c0_i32_1 : BitVec 32 := 0#32
  ![v3.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c1_i32_0 : BitVec 32 := 1#32
  let v1 : BitVec 32 := Scalar.muli v0 c1_i32_0
  let c0_i32 : BitVec 32 := 0#32
  let c127_i32 : BitVec 32 := 127#32
  let v2 : BitVec 32 := Scalar.maxsi c0_i32 v1
  let v3 : BitVec 32 := Scalar.minsi c127_i32 v2
  let c0_i32_1 : BitVec 32 := 0#32
  ![v3.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c1_i32_0 : BitVec 32 := 1#32
  let v1 : BitVec 32 := Scalar.subi v0 c1_i32_0
  let c0_i32 : BitVec 32 := 0#32
  let c127_i32 : BitVec 32 := 127#32
  let v2 : BitVec 32 := Scalar.maxsi c0_i32 v1
  let v3 : BitVec 32 := Scalar.minsi c127_i32 v2
  let c0_i32_1 : BitVec 32 := 0#32
  ![v3.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c1_i32_0 : BitVec 32 := 1#32
  let v1 : BitVec 32 := Scalar.muli v0 c1_i32_0
  let c0_i32 : BitVec 32 := 0#32
  let c127_i32 : BitVec 32 := 127#32
  let v2 : BitVec 32 := Scalar.maxsi c0_i32 v1
  let v3 : BitVec 32 := Scalar.minsi c127_i32 v2
  let c0_i32_1 : BitVec 32 := 0#32
  ![v3.toNat, arg1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg0 c128_i32
  let v1 : BitVec 32 := Scalar.addi v0 arg2
  let c0_i32 : BitVec 32 := 0#32
  ![v1.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true, true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true, true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false, false]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S32768x1536 : Shape := ⟨2, ![32768, 1536]⟩
abbrev S64 : Shape := ⟨1, ![64]⟩
abbrev S16 : Shape := ⟨1, ![16]⟩
abbrev S2x16384x1536 : Shape := ⟨3, ![2, 16384, 1536]⟩
abbrev S2x16384x1024 : Shape := ⟨3, ![2, 16384, 1024]⟩
abbrev S2x16384x256 : Shape := ⟨3, ![2, 16384, 256]⟩
abbrev S16384 : Shape := ⟨1, ![16384]⟩
abbrev S2x16384x16x64 : Shape := ⟨4, ![2, 16384, 16, 64]⟩
abbrev S_ : Shape := ⟨0, ![]⟩
abbrev S2x16384x16 : Shape := ⟨3, ![2, 16384, 16]⟩
abbrev S2x16384x16x1 : Shape := ⟨4, ![2, 16384, 16, 1]⟩
abbrev S1x1x1x64 : Shape := ⟨4, ![1, 1, 1, 64]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S1x16384x1x32 : Shape := ⟨4, ![1, 16384, 1, 32]⟩
abbrev S2x16384x16x32 : Shape := ⟨4, ![2, 16384, 16, 32]⟩
abbrev S2x16384x4x64 : Shape := ⟨4, ![2, 16384, 4, 64]⟩
abbrev S2x16384x4 : Shape := ⟨3, ![2, 16384, 4]⟩
abbrev S2x16384x4x1 : Shape := ⟨4, ![2, 16384, 4, 1]⟩
abbrev S2x16384x4x32 : Shape := ⟨4, ![2, 16384, 4, 32]⟩
abbrev S2x16384x4x4x64 : Shape := ⟨5, ![2, 16384, 4, 4, 64]⟩
abbrev S4x4 : Shape := ⟨2, ![4, 4]⟩
abbrev S2x128x128x4x4x64 : Shape := ⟨6, ![2, 128, 128, 4, 4, 64]⟩
abbrev S2x16640x4x64 : Shape := ⟨4, ![2, 16640, 4, 64]⟩
abbrev S2x130x128x4x64 : Shape := ⟨5, ![2, 130, 128, 4, 64]⟩
abbrev S2x128x128x4x64 : Shape := ⟨5, ![2, 128, 128, 4, 64]⟩
abbrev S2x128x384x4x64 : Shape := ⟨5, ![2, 128, 384, 4, 64]⟩
abbrev S128 : Shape := ⟨1, ![128]⟩
abbrev S128x1x1 : Shape := ⟨3, ![128, 1, 1]⟩
abbrev S1x128x1 : Shape := ⟨3, ![1, 128, 1]⟩
abbrev S128x128x1 : Shape := ⟨3, ![128, 128, 1]⟩
abbrev S384 : Shape := ⟨1, ![384]⟩
abbrev S1x1x384 : Shape := ⟨3, ![1, 1, 384]⟩
abbrev S128x1x384 : Shape := ⟨3, ![128, 1, 384]⟩
abbrev S128x128x384 : Shape := ⟨3, ![128, 128, 384]⟩
abbrev S2x128x4x384x128x4 : Shape := ⟨6, ![2, 128, 4, 384, 128, 4]⟩
abbrev S2x128x4x4x128x384 : Shape := ⟨6, ![2, 128, 4, 4, 128, 384]⟩
abbrev S1x128x1x1x128x384 : Shape := ⟨6, ![1, 128, 1, 1, 128, 384]⟩
abbrev S2x128x4x4x128 : Shape := ⟨5, ![2, 128, 4, 4, 128]⟩
abbrev S2x128x4x4x128x1 : Shape := ⟨6, ![2, 128, 4, 4, 128, 1]⟩
abbrev S1x1x4x4x1x1 : Shape := ⟨6, ![1, 1, 4, 4, 1, 1]⟩
abbrev S2x128x4x4x128x64 : Shape := ⟨6, ![2, 128, 4, 4, 128, 64]⟩
abbrev S2x128x128x4x4 : Shape := ⟨5, ![2, 128, 128, 4, 4]⟩
abbrev S2x16384x4x4 : Shape := ⟨4, ![2, 16384, 4, 4]⟩
abbrev S32768x1024 : Shape := ⟨2, ![32768, 1024]⟩

abbrev nBuf : Space → Nat
  | .hbm => 205
  | .vmem => 0
  | .smem => 0
  | _ => 0

abbrev hbmTy0_0 (i : Nat) : BufTy := match i % 128 with
  | 0 => ⟨S32768x1536, .f32⟩
  | 1 => ⟨S64, .f32⟩
  | 2 => ⟨S64, .f32⟩
  | 3 => ⟨S16, .f32⟩
  | 4 => ⟨S2x16384x1536, .f32⟩
  | 5 => ⟨S2x16384x1024, .f32⟩
  | 6 => ⟨S2x16384x256, .f32⟩
  | 7 => ⟨S2x16384x256, .f32⟩
  | 8 => ⟨S16384, .i32⟩
  | 9 => ⟨S2x16384x16x64, .f32⟩
  | 10 => ⟨S2x16384x16x64, .f32⟩
  | 11 => ⟨S_, .f32⟩
  | 12 => ⟨S2x16384x16, .f32⟩
  | 13 => ⟨S2x16384x16x1, .f32⟩
  | 14 => ⟨S_, .f32⟩
  | 15 => ⟨S2x16384x16x1, .f32⟩
  | 16 => ⟨S2x16384x16x1, .f32⟩
  | 17 => ⟨S_, .f32⟩
  | 18 => ⟨S2x16384x16x1, .f32⟩
  | 19 => ⟨S2x16384x16x1, .f32⟩
  | 20 => ⟨S2x16384x16x1, .f32⟩
  | 21 => ⟨S2x16384x16x64, .f32⟩
  | 22 => ⟨S2x16384x16x64, .f32⟩
  | 23 => ⟨S1x1x1x64, .f32⟩
  | 24 => ⟨S2x16384x16x64, .f32⟩
  | 25 => ⟨S2x16384x16x64, .f32⟩
  | 26 => ⟨S32, .f32⟩
  | 27 => ⟨S32, .f32⟩
  | 28 => ⟨S_, .f32⟩
  | 29 => ⟨S32, .f32⟩
  | 30 => ⟨S32, .f32⟩
  | 31 => ⟨S_, .f32⟩
  | 32 => ⟨S32, .f32⟩
  | 33 => ⟨S32, .f32⟩
  | 34 => ⟨S16384, .f32⟩
  | 35 => ⟨S16384x1, .f32⟩
  | 36 => ⟨S1x32, .f32⟩
  | 37 => ⟨S16384x32, .f32⟩
  | 38 => ⟨S16384x32, .f32⟩
  | 39 => ⟨S16384x32, .f32⟩
  | 40 => ⟨S16384x32, .f32⟩
  | 41 => ⟨S1x16384x1x32, .f32⟩
  | 42 => ⟨S16384x32, .f32⟩
  | 43 => ⟨S1x16384x1x32, .f32⟩
  | 44 => ⟨S2x16384x16x32, .f32⟩
  | 45 => ⟨S2x16384x16x32, .f32⟩
  | 46 => ⟨S2x16384x16x32, .f32⟩
  | 47 => ⟨S2x16384x16x32, .f32⟩
  | 48 => ⟨S2x16384x16x32, .f32⟩
  | 49 => ⟨S2x16384x16x32, .f32⟩
  | 50 => ⟨S2x16384x16x32, .f32⟩
  | 51 => ⟨S2x16384x16x32, .f32⟩
  | 52 => ⟨S2x16384x16x32, .f32⟩
  | 53 => ⟨S2x16384x16x32, .f32⟩
  | 54 => ⟨S2x16384x16x32, .f32⟩
  | 55 => ⟨S2x16384x16x32, .f32⟩
  | 56 => ⟨S2x16384x16x64, .f32⟩
  | 57 => ⟨S2x16384x4x64, .f32⟩
  | 58 => ⟨S2x16384x4x64, .f32⟩
  | 59 => ⟨S_, .f32⟩
  | 60 => ⟨S2x16384x4, .f32⟩
  | 61 => ⟨S2x16384x4x1, .f32⟩
  | 62 => ⟨S_, .f32⟩
  | 63 => ⟨S2x16384x4x1, .f32⟩
  | 64 => ⟨S2x16384x4x1, .f32⟩
  | 65 => ⟨S_, .f32⟩
  | 66 => ⟨S2x16384x4x1, .f32⟩
  | 67 => ⟨S2x16384x4x1, .f32⟩
  | 68 => ⟨S2x16384x4x1, .f32⟩
  | 69 => ⟨S2x16384x4x64, .f32⟩
  | 70 => ⟨S2x16384x4x64, .f32⟩
  | 71 => ⟨S1x1x1x64, .f32⟩
  | 72 => ⟨S2x16384x4x64, .f32⟩
  | 73 => ⟨S2x16384x4x64, .f32⟩
  | 74 => ⟨S32, .f32⟩
  | 75 => ⟨S32, .f32⟩
  | 76 => ⟨S_, .f32⟩
  | 77 => ⟨S32, .f32⟩
  | 78 => ⟨S32, .f32⟩
  | 79 => ⟨S_, .f32⟩
  | 80 => ⟨S32, .f32⟩
  | 81 => ⟨S32, .f32⟩
  | 82 => ⟨S16384, .f32⟩
  | 83 => ⟨S16384x1, .f32⟩
  | 84 => ⟨S1x32, .f32⟩
  | 85 => ⟨S16384x32, .f32⟩
  | 86 => ⟨S16384x32, .f32⟩
  | 87 => ⟨S16384x32, .f32⟩
  | 88 => ⟨S16384x32, .f32⟩
  | 89 => ⟨S1x16384x1x32, .f32⟩
  | 90 => ⟨S16384x32, .f32⟩
  | 91 => ⟨S1x16384x1x32, .f32⟩
  | 92 => ⟨S2x16384x4x32, .f32⟩
  | 93 => ⟨S2x16384x4x32, .f32⟩
  | 94 => ⟨S2x16384x4x32, .f32⟩
  | 95 => ⟨S2x16384x4x32, .f32⟩
  | 96 => ⟨S2x16384x4x32, .f32⟩
  | 97 => ⟨S2x16384x4x32, .f32⟩
  | 98 => ⟨S2x16384x4x32, .f32⟩
  | 99 => ⟨S2x16384x4x32, .f32⟩
  | 100 => ⟨S2x16384x4x32, .f32⟩
  | 101 => ⟨S2x16384x4x32, .f32⟩
  | 102 => ⟨S2x16384x4x32, .f32⟩
  | 103 => ⟨S2x16384x4x32, .f32⟩
  | 104 => ⟨S2x16384x4x64, .f32⟩
  | 105 => ⟨S2x16384x4x64, .f32⟩
  | 106 => ⟨S2x16384x4x4x64, .f32⟩
  | 107 => ⟨S4x4, .f32⟩
  | 108 => ⟨S_, .i32⟩
  | 109 => ⟨S_, .f32⟩
  | 110 => ⟨S2x16384x4x4x64, .f32⟩
  | 111 => ⟨S2x128x128x4x4x64, .f32⟩
  | 112 => ⟨S_, .i32⟩
  | 113 => ⟨S_, .f32⟩
  | 114 => ⟨S2x16640x4x64, .f32⟩
  | 115 => ⟨S2x130x128x4x64, .f32⟩
  | 116 => ⟨S_, .i32⟩
  | 117 => ⟨S_, .f32⟩
  | 118 => ⟨S2x16640x4x64, .f32⟩
  | 119 => ⟨S2x130x128x4x64, .f32⟩
  | 120 => ⟨S2x128x128x4x64, .f32⟩
  | 121 => ⟨S2x128x128x4x64, .f32⟩
  | 122 => ⟨S2x128x128x4x64, .f32⟩
  | 123 => ⟨S2x128x384x4x64, .f32⟩
  | 124 => ⟨S2x128x128x4x64, .f32⟩
  | 125 => ⟨S2x128x128x4x64, .f32⟩
  | 126 => ⟨S2x128x128x4x64, .f32⟩
  | 127 => ⟨S2x128x384x4x64, .f32⟩
  | _ => ⟨S32768x1536, .f32⟩

abbrev hbmTy0_1 (i : Nat) : BufTy := match i % 128 with
  | 0 => ⟨S128, .i32⟩
  | 1 => ⟨S128x1x1, .i32⟩
  | 2 => ⟨S_, .i32⟩
  | 3 => ⟨S128x1x1, .i32⟩
  | 4 => ⟨S128x1x1, .i32⟩
  | 5 => ⟨S128, .i32⟩
  | 6 => ⟨S1x128x1, .i32⟩
  | 7 => ⟨S128x128x1, .i32⟩
  | 8 => ⟨S128x128x1, .i32⟩
  | 9 => ⟨S128x128x1, .i32⟩
  | 10 => ⟨S_, .i32⟩
  | 11 => ⟨S128x1x1, .i32⟩
  | 12 => ⟨S128x1x1, .i32⟩
  | 13 => ⟨S_, .i32⟩
  | 14 => ⟨S128x1x1, .i32⟩
  | 15 => ⟨S128x1x1, .i32⟩
  | 16 => ⟨S384, .i32⟩
  | 17 => ⟨S1x1x384, .i32⟩
  | 18 => ⟨S128x1x384, .i32⟩
  | 19 => ⟨S128x1x384, .i32⟩
  | 20 => ⟨S128x1x384, .i32⟩
  | 21 => ⟨S128x128x384, .i32⟩
  | 22 => ⟨S128x128x384, .i32⟩
  | 23 => ⟨S128x128x384, .i32⟩
  | 24 => ⟨S128x128x384, .i32⟩
  | 25 => ⟨S_, .i32⟩
  | 26 => ⟨S128x128x384, .i32⟩
  | 27 => ⟨S128x128x384, .i1⟩
  | 28 => ⟨S_, .i32⟩
  | 29 => ⟨S128x1x384, .i32⟩
  | 30 => ⟨S128x1x384, .i1⟩
  | 31 => ⟨S128x128x384, .i1⟩
  | 32 => ⟨S128x128x384, .i1⟩
  | 33 => ⟨S_, .i32⟩
  | 34 => ⟨S128x1x384, .i32⟩
  | 35 => ⟨S128x1x384, .i1⟩
  | 36 => ⟨S128x128x384, .i1⟩
  | 37 => ⟨S128x128x384, .i1⟩
  | 38 => ⟨S2x128x4x384x128x4, .f32⟩
  | 39 => ⟨S2x128x4x4x128x384, .f32⟩
  | 40 => ⟨S_, .f32⟩
  | 41 => ⟨S2x128x4x4x128x384, .f32⟩
  | 42 => ⟨S2x128x4x4x128x384, .f32⟩
  | 43 => ⟨S1x128x1x1x128x384, .i1⟩
  | 44 => ⟨S_, .f32⟩
  | 45 => ⟨S_, .f32⟩
  | 46 => ⟨S2x128x4x4x128x384, .i1⟩
  | 47 => ⟨S2x128x4x4x128x384, .f32⟩
  | 48 => ⟨S2x128x4x4x128x384, .f32⟩
  | 49 => ⟨S_, .f32⟩
  | 50 => ⟨S2x128x4x4x128, .f32⟩
  | 51 => ⟨S2x128x4x4x128x1, .f32⟩
  | 52 => ⟨S1x1x4x4x1x1, .f32⟩
  | 53 => ⟨S2x128x4x4x128x1, .f32⟩
  | 54 => ⟨S2x128x4x4x128x1, .f32⟩
  | 55 => ⟨S2x128x4x4x128x384, .f32⟩
  | 56 => ⟨S2x128x4x4x128x384, .f32⟩
  | 57 => ⟨S2x128x4x4x128x384, .f32⟩
  | 58 => ⟨S_, .f32⟩
  | 59 => ⟨S2x128x4x4x128, .f32⟩
  | 60 => ⟨S2x128x4x4x128x1, .f32⟩
  | 61 => ⟨S2x128x4x4x128x1, .f32⟩
  | 62 => ⟨S2x128x4x4x128x1, .f32⟩
  | 63 => ⟨S2x128x4x4x128x1, .f32⟩
  | 64 => ⟨S2x128x4x4x128x1, .f32⟩
  | 65 => ⟨S2x128x4x4x128x64, .f32⟩
  | 66 => ⟨S2x128x4x4x128x64, .f32⟩
  | 67 => ⟨S2x128x4x4x128x64, .f32⟩
  | 68 => ⟨S2x128x128x4x4x64, .f32⟩
  | 69 => ⟨S2x16384x4x4x64, .f32⟩
  | 70 => ⟨S2x128x4x4x128x1, .f32⟩
  | 71 => ⟨S2x128x4x4x128x1, .f32⟩
  | 72 => ⟨S2x128x4x4x128, .f32⟩
  | 73 => ⟨S2x128x128x4x4, .f32⟩
  | 74 => ⟨S2x16384x4x4, .f32⟩
  | 75 => ⟨S2x16384x1024, .f32⟩
  | 76 => ⟨S32768x1024, .f32⟩
  | _ => ⟨S32768x1536, .f32⟩

abbrev hbmTy (i : Nat) : BufTy := match i / 128 with
  | 0 => hbmTy0_0 i
  | 1 => hbmTy0_1 i
  | _ => ⟨S32768x1536, .f32⟩

abbrev bufTy : (tb : Table) → Fin (tcTables nBuf tb) → BufTy
  | .hbm, ⟨i, _⟩ => hbmTy i
  | _, _ => ⟨S32768x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_4 : Ref sig .tc := ⟨.hbm, 59, rfl⟩
abbrev main_v50 : Ref sig .tc := ⟨.hbm, 60, rfl⟩
abbrev main_v51 : Ref sig .tc := ⟨.hbm, 61, rfl⟩
abbrev main_cst_5 : Ref sig .tc := ⟨.hbm, 62, rfl⟩
abbrev main_v52 : Ref sig .tc := ⟨.hbm, 63, rfl⟩
abbrev main_v53 : Ref sig .tc := ⟨.hbm, 64, rfl⟩
abbrev main_cst_6 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_7 : Ref sig .tc := ⟨.hbm, 76, rfl⟩
abbrev main_v64 : Ref sig .tc := ⟨.hbm, 77, rfl⟩
abbrev main_v65 : Ref sig .tc := ⟨.hbm, 78, rfl⟩
abbrev main_cst_8 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_c : Ref sig .tc := ⟨.hbm, 108, rfl⟩
abbrev main_call0_v0 : Ref sig .tc := ⟨.hbm, 109, rfl⟩
abbrev main_v94 : Ref sig .tc := ⟨.hbm, 110, rfl⟩
abbrev main_v95 : Ref sig .tc := ⟨.hbm, 111, rfl⟩
abbrev main_c_9 : Ref sig .tc := ⟨.hbm, 112, rfl⟩
abbrev main_call1_v0 : Ref sig .tc := ⟨.hbm, 113, rfl⟩
abbrev main_v96 : Ref sig .tc := ⟨.hbm, 114, rfl⟩
abbrev main_v97 : Ref sig .tc := ⟨.hbm, 115, rfl⟩
abbrev main_c_10 : Ref sig .tc := ⟨.hbm, 116, rfl⟩
abbrev main_call2_v0 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_c_11 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_c_12 : Ref sig .tc := ⟨.hbm, 138, rfl⟩
abbrev main_v117 : Ref sig .tc := ⟨.hbm, 139, rfl⟩
abbrev main_v118 : Ref sig .tc := ⟨.hbm, 140, rfl⟩
abbrev main_c_13 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_c_14 : Ref sig .tc := ⟨.hbm, 153, rfl⟩
abbrev main_v130 : Ref sig .tc := ⟨.hbm, 154, rfl⟩
abbrev main_v131 : Ref sig .tc := ⟨.hbm, 155, rfl⟩
abbrev main_c_15 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_c_16 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_cst_17 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_cst_18 : Ref sig .tc := ⟨.hbm, 172, rfl⟩
abbrev main_call3_v0 : Ref sig .tc := ⟨.hbm, 173, rfl⟩
abbrev main_call3_v1 : Ref sig .tc := ⟨.hbm, 174, rfl⟩
abbrev main_call3_v2 : Ref sig .tc := ⟨.hbm, 175, rfl⟩
abbrev main_v145 : Ref sig .tc := ⟨.hbm, 176, rfl⟩
abbrev main_cst_19 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_cst_20 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩

abbrev nD : Nat := 1
abbrev τ : Topo := Topo.v7x

variable {F : FTy → Type} [FloatOps F]
-- ==== Ssm.lean ====
abbrev S32768x1024 : Shape := ⟨2, ![32768, 1024]⟩
abbrev S1024 : Shape := ⟨1, ![1024]⟩
abbrev S1024x9504 : Shape := ⟨2, ![1024, 9504]⟩
abbrev S1024x2592 : Shape := ⟨2, ![1024, 2592]⟩
abbrev S_ : Shape := ⟨0, ![]⟩
abbrev S1024x2688 : Shape := ⟨2, ![1024, 2688]⟩
abbrev S1x1024 : Shape := ⟨2, ![1, 1024]⟩
abbrev S32768x2688 : Shape := ⟨2, ![32768, 2688]⟩
abbrev S1024x1024 : Shape := ⟨2, ![1024, 1024]⟩
abbrev S1024x896 : Shape := ⟨2, ![1024, 896]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x9504, .f32⟩
  | .hbm, ⟨3, _⟩ => ⟨S1024x2592, .f32⟩
  | .hbm, ⟨4, _⟩ => ⟨S1024x2592, .bf16⟩
  | .hbm, ⟨5, _⟩ => ⟨S_, .i32⟩
  | .hbm, ⟨6, _⟩ => ⟨S_, .bf16⟩
  | .hbm, ⟨7, _⟩ => ⟨S1024x2688, .bf16⟩
  | .hbm, ⟨8, _⟩ => ⟨S1x1024, .f32⟩
  | .hbm, ⟨9, _⟩ => ⟨S32768x2688, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x896, .bf16⟩
  | .local _ .vmem, ⟨4, _⟩ => ⟨S1024x896, .bf16⟩
  | .local _ .vmem, ⟨5, _⟩ => ⟨S1024x896, .f32⟩
  | .local _ .vmem, ⟨6, _⟩ => ⟨S1024x896, .f32⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsmReferenceIdeal.lean ====
abbrev S32768x1024 : Shape := ⟨2, ![32768, 1024]⟩
abbrev S1024 : Shape := ⟨1, ![1024]⟩
abbrev S1024x9504 : Shape := ⟨2, ![1024, 9504]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x9504 : Shape := ⟨2, ![32768, 9504]⟩
abbrev S32768x2592 : Shape := ⟨2, ![32768, 2592]⟩
abbrev S32768x2688 : Shape := ⟨2, ![32768, 2688]⟩

abbrev nBuf : Space → Nat
  | .hbm => 24
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x9504, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x9504, .f32⟩
  | .hbm, ⟨20, _⟩ => ⟨S32768x2592, .f32⟩
  | .hbm, ⟨21, _⟩ => ⟨S_, .i32⟩
  | .hbm, ⟨22, _⟩ => ⟨S_, .f32⟩
  | .hbm, ⟨23, _⟩ => ⟨S32768x2688, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Swa.lean ====
abbrev S32768x1024 : Shape := ⟨2, ![32768, 1024]⟩
abbrev S1024 : Shape := ⟨1, ![1024]⟩
abbrev S1024x9504 : Shape := ⟨2, ![1024, 9504]⟩
abbrev S1024x1536 : Shape := ⟨2, ![1024, 1536]⟩
abbrev S1x1024 : Shape := ⟨2, ![1, 1024]⟩
abbrev S32768x1536 : Shape := ⟨2, ![32768, 1536]⟩
abbrev S1024x1024 : Shape := ⟨2, ![1024, 1024]⟩
abbrev S1024x768 : Shape := ⟨2, ![1024, 768]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x9504, .f32⟩
  | .hbm, ⟨3, _⟩ => ⟨S1024x1536, .f32⟩
  | .hbm, ⟨4, _⟩ => ⟨S1024x1536, .bf16⟩
  | .hbm, ⟨5, _⟩ => ⟨S1x1024, .f32⟩
  | .hbm, ⟨6, _⟩ => ⟨S32768x1536, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x768, .bf16⟩
  | .local _ .vmem, ⟨4, _⟩ => ⟨S1024x768, .bf16⟩
  | .local _ .vmem, ⟨5, _⟩ => ⟨S1024x768, .f32⟩
  | .local _ .vmem, ⟨6, _⟩ => ⟨S1024x768, .f32⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwaReferenceIdeal.lean ====
abbrev S32768x1024 : Shape := ⟨2, ![32768, 1024]⟩
abbrev S1024 : Shape := ⟨1, ![1024]⟩
abbrev S1024x9504 : Shape := ⟨2, ![1024, 9504]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x9504 : Shape := ⟨2, ![32768, 9504]⟩
abbrev S32768x1536 : Shape := ⟨2, ![32768, 1536]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x9504, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x9504, .f32⟩
  | .hbm, ⟨20, _⟩ => ⟨S32768x1536, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Dil.lean ====
abbrev S32768x1024 : Shape := ⟨2, ![32768, 1024]⟩
abbrev S1024 : Shape := ⟨1, ![1024]⟩
abbrev S1024x9504 : Shape := ⟨2, ![1024, 9504]⟩
abbrev S1024x2304 : Shape := ⟨2, ![1024, 2304]⟩
abbrev S1x1024 : Shape := ⟨2, ![1, 1024]⟩
abbrev S32768x2304 : Shape := ⟨2, ![32768, 2304]⟩
abbrev S1024x1024 : Shape := ⟨2, ![1024, 1024]⟩
abbrev S1024x768 : Shape := ⟨2, ![1024, 768]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x9504, .f32⟩
  | .hbm, ⟨3, _⟩ => ⟨S1024x2304, .f32⟩
  | .hbm, ⟨4, _⟩ => ⟨S1024x2304, .bf16⟩
  | .hbm, ⟨5, _⟩ => ⟨S1x1024, .f32⟩
  | .hbm, ⟨6, _⟩ => ⟨S32768x2304, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x768, .bf16⟩
  | .local _ .vmem, ⟨4, _⟩ => ⟨S1024x768, .bf16⟩
  | .local _ .vmem, ⟨5, _⟩ => ⟨S1024x768, .f32⟩
  | .local _ .vmem, ⟨6, _⟩ => ⟨S1024x768, .f32⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DilReferenceIdeal.lean ====
abbrev S32768x1024 : Shape := ⟨2, ![32768, 1024]⟩
abbrev S1024 : Shape := ⟨1, ![1024]⟩
abbrev S1024x9504 : Shape := ⟨2, ![1024, 9504]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x9504 : Shape := ⟨2, ![32768, 9504]⟩
abbrev S32768x2304 : Shape := ⟨2, ![32768, 2304]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x9504, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x9504, .f32⟩
  | .hbm, ⟨20, _⟩ => ⟨S32768x2304, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Gates.lean ====
abbrev S32768x1024 : Shape := ⟨2, ![32768, 1024]⟩
abbrev S1024 : Shape := ⟨1, ![1024]⟩
abbrev S1024x9504 : Shape := ⟨2, ![1024, 9504]⟩
abbrev S1024x3072 : Shape := ⟨2, ![1024, 3072]⟩
abbrev S1x1024 : Shape := ⟨2, ![1, 1024]⟩
abbrev S32768x3072 : Shape := ⟨2, ![32768, 3072]⟩
abbrev S1024x1024 : Shape := ⟨2, ![1024, 1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x9504, .f32⟩
  | .hbm, ⟨3, _⟩ => ⟨S1024x3072, .f32⟩
  | .hbm, ⟨4, _⟩ => ⟨S1024x3072, .bf16⟩
  | .hbm, ⟨5, _⟩ => ⟨S1x1024, .f32⟩
  | .hbm, ⟨6, _⟩ => ⟨S32768x3072, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesReferenceIdeal.lean ====
abbrev S32768x1024 : Shape := ⟨2, ![32768, 1024]⟩
abbrev S1024 : Shape := ⟨1, ![1024]⟩
abbrev S1024x9504 : Shape := ⟨2, ![1024, 9504]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x9504 : Shape := ⟨2, ![32768, 9504]⟩
abbrev S32768x3072 : Shape := ⟨2, ![32768, 3072]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x9504, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x9504, .f32⟩
  | .hbm, ⟨20, _⟩ => ⟨S32768x3072, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Mixer.lean ====
abbrev S32768x1024 : Shape := ⟨2, ![32768, 1024]⟩
abbrev S32768x256 : Shape := ⟨2, ![32768, 256]⟩
abbrev S32768x3072 : Shape := ⟨2, ![32768, 3072]⟩
abbrev S1024x1024 : Shape := ⟨2, ![1024, 1024]⟩
abbrev S256x1024 : Shape := ⟨2, ![256, 1024]⟩
abbrev S512x1024 : Shape := ⟨2, ![512, 1024]⟩
abbrev S512x256 : Shape := ⟨2, ![512, 256]⟩
abbrev S512x3072 : Shape := ⟨2, ![512, 3072]⟩

abbrev nBuf : Space → Nat
  | .hbm => 14
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x256, .f32⟩
  | .hbm, ⟨4, _⟩ => ⟨S32768x3072, .f32⟩
  | .hbm, ⟨5, _⟩ => ⟨S1024x1024, .f32⟩
  | .hbm, ⟨6, _⟩ => ⟨S1024x1024, .f32⟩
  | .hbm, ⟨7, _⟩ => ⟨S256x1024, .f32⟩
  | .hbm, ⟨8, _⟩ => ⟨S1024x1024, .f32⟩
  | .hbm, ⟨9, _⟩ => ⟨S1024x1024, .bf16⟩
  | .hbm, ⟨10, _⟩ => ⟨S1024x1024, .bf16⟩
  | .hbm, ⟨11, _⟩ => ⟨S256x1024, .bf16⟩
  | .hbm, ⟨12, _⟩ => ⟨S1024x1024, .bf16⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x256, .f32⟩
  | .local _ .vmem, ⟨7, _⟩ => ⟨S512x256, .f32⟩
  | .local _ .vmem, ⟨8, _⟩ => ⟨S512x3072, .f32⟩
  | .local _ .vmem, ⟨9, _⟩ => ⟨S512x3072, .f32⟩
  | .local _ .vmem, ⟨10, _⟩ => ⟨S1024x1024, .bf16⟩
  | .local _ .vmem, ⟨11, _⟩ => ⟨S1024x1024, .bf16⟩
  | .local _ .vmem, ⟨12, _⟩ => ⟨S256x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixerReferenceIdeal.lean ====
abbrev S32768x1024 : Shape := ⟨2, ![32768, 1024]⟩
abbrev S32768x256 : Shape := ⟨2, ![32768, 256]⟩
abbrev S32768x3072 : Shape := ⟨2, ![32768, 3072]⟩
abbrev S1024x1024 : Shape := ⟨2, ![1024, 1024]⟩
abbrev S256x1024 : Shape := ⟨2, ![256, 1024]⟩
abbrev S_ : Shape := ⟨0, ![]⟩
abbrev S32768x3x1024 : Shape := ⟨3, ![32768, 3, 1024]⟩
abbrev S32768x1x1024 : Shape := ⟨3, ![32768, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x256, .f32⟩
  | .hbm, ⟨4, _⟩ => ⟨S32768x3072, .f32⟩
  | .hbm, ⟨5, _⟩ => ⟨S1024x1024, .f32⟩
  | .hbm, ⟨6, _⟩ => ⟨S1024x1024, .f32⟩
  | .hbm, ⟨7, _⟩ => ⟨S256x1024, .f32⟩
  | .hbm, ⟨8, _⟩ => ⟨S1024x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x3072, .f32⟩
  | .hbm, ⟨13, _⟩ => ⟨S32768x3072, .f32⟩
  | .hbm, ⟨14, _⟩ => ⟨S_, .f32⟩
  | .hbm, ⟨15, _⟩ => ⟨S32768x3072, .f32⟩
  | .hbm, ⟨16, _⟩ => ⟨S32768x3072, .f32⟩
  | .hbm, ⟨17, _⟩ => ⟨S_, .f32⟩
  | .hbm, ⟨18, _⟩ => ⟨S32768x3072, .f32⟩
  | .hbm, ⟨19, _⟩ => ⟨S32768x3072, .f32⟩
  | .hbm, ⟨20, _⟩ => ⟨S32768x3x1024, .f32⟩
  | .hbm, ⟨21, _⟩ => ⟨S32768x1x1024, .f32⟩
  | .hbm, ⟨22, _⟩ => ⟨S32768x1024, .f32⟩
  | .hbm, ⟨23, _⟩ => ⟨S32768x1024, .f32⟩
  | .hbm, ⟨24, _⟩ => ⟨S32768x1x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Merge.lean ====
abbrev S32768x256 : Shape := ⟨2, ![32768, 256]⟩
abbrev S1024x256 : Shape := ⟨2, ![1024, 256]⟩

abbrev nBuf : Space → Nat
  | .hbm => 7
  | .vmem => 14
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S32768x256, .f32⟩
  | .hbm, ⟨6, _⟩ => ⟨S32768x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeReferenceIdeal.lean ====
abbrev S32768x256 : Shape := ⟨2, ![32768, 256]⟩
abbrev S1x32768x256 : Shape := ⟨3, ![1, 32768, 256]⟩
abbrev S3x32768x256 : Shape := ⟨3, ![3, 32768, 256]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S32768x256, .f32⟩
  | .hbm, ⟨6, _⟩ => ⟨S1x32768x256, .f32⟩
  | .hbm, ⟨7, _⟩ => ⟨S1x32768x256, .f32⟩
  | .hbm, ⟨8, _⟩ => ⟨S1x32768x256, .f32⟩
  | .hbm, ⟨9, _⟩ => ⟨S3x32768x256, .f32⟩
  | .hbm, ⟨10, _⟩ => ⟨S_, .f32⟩
  | .hbm, ⟨11, _⟩ => ⟨S32768x256, .f32⟩
  | .hbm, ⟨12, _⟩ => ⟨S_, .f32⟩
  | .hbm, ⟨13, _⟩ => ⟨S32768x256, .f32⟩
  | .hbm, ⟨14, _⟩ => ⟨S32768x256, .f32⟩
  | .hbm, ⟨15, _⟩ => ⟨S1x32768x256, .f32⟩
  | .hbm, ⟨16, _⟩ => ⟨S3x32768x256, .f32⟩
  | .hbm, ⟨17, _⟩ => ⟨S3x32768x256, .f32⟩
  | .hbm, ⟨18, _⟩ => ⟨S3x32768x256, .f32⟩
  | .hbm, ⟨19, _⟩ => ⟨S_, .f32⟩
  | .hbm, ⟨20, _⟩ => ⟨S32768x256, .f32⟩
  | .hbm, ⟨21, _⟩ => ⟨S1x32768x256, .f32⟩
  | .hbm, ⟨22, _⟩ => ⟨S3x32768x256, .f32⟩
  | .hbm, ⟨23, _⟩ => ⟨S3x32768x256, .f32⟩
  | .hbm, ⟨24, _⟩ => ⟨S1x32768x256, .f32⟩
  | .hbm, ⟨25, _⟩ => ⟨S1x32768x256, .f32⟩
  | .hbm, ⟨26, _⟩ => ⟨S1x32768x256, .f32⟩
  | .hbm, ⟨27, _⟩ => ⟨S3x32768x256, .f32⟩
  | .hbm, ⟨28, _⟩ => ⟨S3x32768x256, .f32⟩
  | .hbm, ⟨29, _⟩ => ⟨S_, .f32⟩
  | .hbm, ⟨30, _⟩ => ⟨S32768x256, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Proof.Spec.lean ====
/- The layer's window attention at one query row and one head, over the extended reals: norm, rotation, masked scores, and
   the softmax with a sink. Both programs are read down to these functions. -/
module

public import Idealize.ShloMosaic.Lib.Pointwise

@[expose] public section

noncomputable section

namespace Cert.Proof.Spec

open Idealize.ShloMosaic

/-- A head's row over the square root of its mean square (and the small constant), times the gains. -/
def nrm (x g : Fin 64 → EReal) (e : Fin 64) : EReal :=
  x e * Ideal.rsqrt (Ideal.div (∑ i, x i * x i) (Ideal.ofBits .f32 0x42800000#32) + Ideal.ofBits .f32 0x358637BD#32) * g e

/-- The lower half of a head's lanes, -/
def lo (d : Fin 32) : Fin 64 := ⟨d.val, by omega⟩
/-- and the upper half. -/
def hi (d : Fin 32) : Fin 64 := ⟨32 + d.val, by omega⟩

/-- The place of a lane in its half. -/
def half (e : Fin 64) : Fin 32 := ⟨e.val % 32, by omega⟩

/-- The rotation of the two halves of a head's row by the angles whose cosines and sines are `cs`, `sn`. -/
def rot (y : Fin 64 → EReal) (cs sn : Fin 32 → EReal) (e : Fin 64) : EReal :=
  if e.val < 32 then y (lo (half e)) * cs (half e) - y (hi (half e)) * sn (half e)
  else y (hi (half e)) * cs (half e) + y (lo (half e)) * sn (half e)

/-- The row's maximum over the scores and the sink. -/
def top {n : Nat} (s : Fin n → EReal) (sk : EReal) : EReal :=
  max (Finset.fold max (Ideal.ofBits .f32 0xFF800000#32) s Finset.univ) sk

/-- The softmax of the scores with a sink, applied to the values. -/
def attnRow {n : Nat} (s V : Fin n → EReal) (sk : EReal) : EReal :=
  Ideal.div (∑ k, Ideal.exp (s k - top s sk) * V k) (∑ k, Ideal.exp (s k - top s sk) + Ideal.exp (sk - top s sk))

/-- A score: the product of the query and the key row times the scale where the key is seen, else minus infinity. -/
def score (seen : Prop) [Decidable seen] (q k : Fin 64 → EReal) : EReal :=
  if seen then (∑ e, q e * k e) * Ideal.ofBits .f32 0x3E000000#32 else ⊥

/-- Keys that are not seen add nothing: neither their scores nor their values matter. -/
theorem attnRow_congr {n : Nat} (s s' V V' : Fin n → EReal) (sk : EReal) (hs : ∀ k, s k = s' k)
    (hV : ∀ k, s k ≠ ⊥ → V k = V' k) : attnRow s V sk = attnRow s' V' sk := by
  obtain rfl : s = s' := funext hs
  unfold attnRow
  congr 1
  refine Finset.sum_congr rfl fun k _ => ?_
  by_cases h : s k = ⊥
  · rw [h, EReal.bot_sub]
    have e : Ideal.exp ⊥ = 0 := rfl
    rw [e, zero_mul, zero_mul]
  · rw [hV k h]

/-- Whether row `r` of sequence block `n` sees place `k` of the three key blocks around it: the two positions lie at most 128
    apart and the key's position lies in the sequence. -/
def seen (n r k : Nat) : Prop := r ≤ k ∧ k ≤ r + 256 ∧ 128 ≤ 128 * n + k ∧ 128 * n + k < 16512

instance (n r k : Nat) : Decidable (seen n r k) := inferInstanceAs (Decidable (_ ∧ _))

/-- The mean square as a product with `1/64`. -/
theorem div_64 (x : EReal) : Ideal.div x (Ideal.ofBits .f32 0x42800000#32) = x * Ideal.ofBits .f32 0x3C800000#32 := by
  have h64 : Ideal.ofBits .f32 0x42800000#32 = ((64 : ℝ) : EReal) := by
    simp [Ideal.ofBits, Ideal.ieee, -EReal.coe_mul]; norm_num
  have hi : Ideal.ofBits .f32 0x3C800000#32 = ((1 / 64 : ℝ) : EReal) := by
    simp [Ideal.ofBits, Ideal.ieee, -EReal.coe_mul]; norm_num
  have h0 : ((64 : ℝ) : EReal) ≠ 0 := by norm_num
  rw [h64, hi, Ideal.div, if_neg h0, ← EReal.coe_inv]
  norm_num

end Cert.Proof.Spec
-- ==== Proof.Layer.lean ====
/- The layer's window attention over whole arrays, over the extended reals: what both programs compute at an element. -/
module

public import proofs.«01_k».proof.Proof.Spec

@[expose] public section

noncomputable section

namespace Cert.Proof.Layer

open Idealize.ShloMosaic Cert.Proof.Spec

/-- The rotation's angle at position `p` for the pair of lanes `d`. -/
def angle (p : Nat) (d : Fin 32) : EReal :=
  FloatOps.sitofp (F := Ideal) FTy.f32 (BitVec.ofNat 32 p)
    * Ideal.pow (Ideal.ofBits .f32 0x461C4000#32)
        (Ideal.div (-FloatOps.sitofp (F := Ideal) FTy.f32 (BitVec.ofNat 32 d.val)) (Ideal.ofBits .f32 0x42000000#32))

/-- Its cosine -/
def cosT (p : Nat) (d : Fin 32) : EReal := Ideal.cos (angle p d)
/-- and its sine. -/
def sinT (p : Nat) (d : Fin 32) : EReal := Ideal.sin (angle p d)

/-- The position of place `k` in the three key blocks around block `n`, the neighbours of the sequence's ends clipped to it. -/
def kpos (n k : Nat) : Nat := 128 * min 127 (n + k / 128 - 1) + k % 128

theorem kpos_lt (n k : Nat) : kpos n k < 16384 := by unfold kpos; omega

/-- A key that is seen lies at its own position. -/
theorem kpos_seen {n r k : Nat} (hk : k < 384) (h : seen n r k) : kpos n k = 128 * n + k - 128 := by
  unfold kpos; unfold seen at h; omega

/-- Sequence `B`'s row `128 n + r` of head `4 g + h`, at lane `e`: the softmax over the keys that it sees. -/
def layer (x : Fin 32768 → Fin 1536 → EReal) (gq gk : Fin 64 → EReal) (sk : Fin 16 → EReal) (B : Fin 2) (n r : Fin 128)
    (g h : Fin 4) (e : Fin 64) : EReal :=
  attnRow (fun k : Fin 384 => score (seen n.val r.val k.val)
      (rot (nrm (fun e => x ⟨16384 * B.val + (128 * n.val + r.val), by omega⟩ ⟨64 * (4 * g.val + h.val) + e.val, by omega⟩) gq)
        (cosT (128 * n.val + r.val)) (sinT (128 * n.val + r.val)))
      (rot (nrm (fun e => x ⟨16384 * B.val + kpos n.val k.val, by have := kpos_lt n.val k.val; omega⟩
          ⟨1024 + (64 * g.val + e.val), by omega⟩) gk) (cosT (kpos n.val k.val)) (sinT (kpos n.val k.val))))
    (fun k => x ⟨16384 * B.val + kpos n.val k.val, by have := kpos_lt n.val k.val; omega⟩ ⟨1280 + (64 * g.val + e.val), by omega⟩)
    (sk ⟨4 * g.val + h.val, by omega⟩)

/-- The whole result. -/
def out (x : Fin 32768 → Fin 1536 → EReal) (gq gk : Fin 64 → EReal) (sk : Fin 16 → EReal) (i : Fin 32768) (j : Fin 1024) : EReal :=
  layer x gq gk sk ⟨i.val / 16384, by omega⟩ ⟨i.val / 128 % 128, by omega⟩ ⟨i.val % 128, by omega⟩ ⟨j.val / 256, by omega⟩
    ⟨j.val / 64 % 4, by omega⟩ ⟨j.val % 64, by omega⟩

end Cert.Proof.Layer
-- ==== Proof.Body.lean ====
/- The attention body of one grid point, as the few vector functions it is made of: the norm and rotation of a pair of
   heads (`normRope`), one head's attention over the three key blocks (`head`), a pair of heads side by side (`pairE`,
   `pairO`), and the eight pairs put together (`body`). Last: what a grid point writes is `body` of its input blocks. -/
module

public import proofs.«01_k».proof.Proof.Gen.KernelIdeal.Value
public import Idealize.ShloMosaic.Lib.Pipeline.ValueKit.Acc

@[expose] public section

set_option maxRecDepth 16384

noncomputable section

namespace Cert.Proof.Body

open Cert.KernelIdeal Cert.KernelIdeal.Gen Cert.KernelIdeal.Value Idealize.ShloMosaic Idealize.ShloMosaic.TcCoe Idealize.SL.Sem

variable {F : FTy → Type} [FloatOps F] [Named F]

/-- The lanes of the lower head of a pair. -/
def low : IVec S128x128 1 := cmpi .slt (iota .tc S128x128 32 [1] iota_S128x128_d1_w32) (broadcast S128x128 64#32)

/-- The lanes of the upper head of a pair. -/
def high : IVec S128x128 1 := cmpi .sge (iota .tc S128x128 32 [1] iota_S128x128_d1_w32) (broadcast S128x128 64#32)

/-- The zero block. -/
def zeros : FVec F S128x128 .f32 := broadcast S128x128 (Scalar.ofBits .f32 0x00000000#32)

/-- A reduction along the lanes kept as a column. -/
def column (v : FVec F S128 .f32) : FVec F S128x1 .f32 := shapeCast S128x1 v shapeCasts_S128_S128x1

/-- The sum of a block's lanes. -/
def rowSum (x : FVec F S128x128 .f32) : FVec F S128x1 .f32 :=
  column (multiReduction .add [1] S128 x 0x00000000#32 reduces_S128x128_S128 (.inl rfl) rfl)

/-- A column over all lanes. -/
def spread (x : FVec F S128x1 .f32) : FVec F S128x128 .f32 :=
  broadcastTo S128x128 (shapeCast S128x1 x shapeCasts_S128x1_S128x1) broadcasts_S128x1_S128x128

/-- Each head of a pair over the square root of its mean square, times the gains. -/
def normed (x : FVec F S128x128 .f32) (g : FVec F S1x128 .f32) : FVec F S128x128 .f32 :=
  mulf (mulf x (rsqrt (addf (mulf (select low (spread (rowSum (select low (mulf x x) zeros)))
      (spread (rowSum (select low zeros (mulf x x))))) (broadcast S128x128 (Scalar.ofBits .f32 0x3C800000#32)))
    (broadcast S128x128 (Scalar.ofBits .f32 0x358637BD#32)))))
    (broadcastTo S128x128 (shapeCast S1x128 g shapeCasts_S1x128_S1x128) broadcasts_S1x128_S128x128)

/-- The rotation of the two halves of each head by the table of cosines and the table of signed sines. -/
def roped (y c s : FVec F S128x128 .f32) : FVec F S128x128 .f32 :=
  addf (mulf y (shapeCast S128x128 c shapeCasts_S128x128_S128x128))
    (mulf (select k0_pay6 (dynamicRotate 1 96#32 none y rotates_S128x128_d1) (dynamicRotate 1 32#32 none y rotates_S128x128_d1))
      (shapeCast S128x128 s shapeCasts_S128x128_S128x128))

/-- Norm and rotation of a pair of heads. -/
def normRope (x : FVec F S128x128 .f32) (g : FVec F S1x128 .f32) (c s : FVec F S128x128 .f32) : FVec F S128x128 .f32 :=
  roped (normed x g) c s

/-- The masked scores of a head's queries against the keys of its group. -/
def scores (q : FVec F S128x128 .f32) (half : IVec S128x128 1) (K : FVec F S384x128 .bf16) (mask : IVec S128x384 1) :
    FVec F S128x384 .f32 :=
  select mask (mulf (matmul dot_S128x128_S384x128_S128x384_1_1_0_0_n_n none
      (truncf .bf16 (select half q zeros) bitsLt_bf16_f32) K (constant S128x384 .f32 0x00000000#32))
      (broadcast S128x384 (Scalar.ofBits .f32 0x3E000000#32)))
    (broadcast S128x384 (Named.named κ "mask" 0xF149F2CA#32))

/-- The row maximum of the scores and the sink. -/
def rowMax (s : FVec F S128x384 .f32) (sk : Elt F .f32) : FVec F S128x1 .f32 :=
  maximumf (column (multiReduction .maximumf [1] S128 s 0xFF800000#32 reduces_S128x384_S128 (.inl rfl) rfl))
    (broadcast S128x1 sk)

/-- The exponentials of the scores less the row maximum. -/
def weights (s : FVec F S128x384 .f32) (mx : FVec F S128x1 .f32) : FVec F S128x384 .f32 :=
  exp (subf s (broadcastTo S128x384 mx broadcasts_S128x1_S128x384))

/-- The sum of the weights and the sink's own weight. -/
def denom (p : FVec F S128x384 .f32) (mx : FVec F S128x1 .f32) (sk : Elt F .f32) : FVec F S128x1 .f32 :=
  addf (column (multiReduction .add [1] S128 p 0x00000000#32 reduces_S128x384_S128 (.inl rfl) rfl))
    (exp (subf (broadcast S128x1 sk) mx))

/-- The weighted values over the denominator. -/
def mixed (p : FVec F S128x384 .f32) (V : FVec F S384x128 .bf16) (den : FVec F S128x1 .f32) : FVec F S128x128 .f32 :=
  divf (matmul dot_S128x384_S384x128_S128x128_1_0_0_1_n_n none (truncf .bf16 p bitsLt_bf16_f32) V
    (constant S128x128 .f32 0x00000000#32)) (broadcastTo S128x128 den broadcasts_S128x1_S128x128)

/-- From the scores and the sink to the mixed values. -/
def attend (s : FVec F S128x384 .f32) (V : FVec F S384x128 .bf16) (sk : Elt F .f32) : FVec F S128x128 .f32 :=
  mixed (weights s (rowMax s sk)) V (denom (weights s (rowMax s sk)) (rowMax s sk) sk)

/-- One head: its queries lie in the lanes `half`. -/
def head (q : FVec F S128x128 .f32) (half : IVec S128x128 1) (K : FVec F S384x128 .bf16) (V : FVec F S384x128 .bf16)
    (mask : IVec S128x384 1) (sk : Elt F .f32) : FVec F S128x128 .f32 :=
  attend (scores q half K mask) V sk

/-- The two heads of a pair exchanged. -/
def swap (x : FVec F S128x128 .f32) : FVec F S128x128 .f32 := dynamicRotate 1 64#32 none x rotates_S128x128_d1

/-- A pair of heads whose keys lie in the lower lanes. -/
def pairE (q : FVec F S128x128 .f32) (K V : FVec F S384x128 .bf16) (mask : IVec S128x384 1) (s0 s1 : Elt F .f32) :
    FVec F S128x128 .f32 :=
  select high (swap (head (swap q) low K V mask s1)) (select low (head q low K V mask s0) zeros)

/-- A pair of heads whose keys lie in the upper lanes. -/
def pairO (q : FVec F S128x128 .f32) (K V : FVec F S384x128 .bf16) (mask : IVec S128x384 1) (s0 s1 : Elt F .f32) :
    FVec F S128x128 .f32 :=
  select high (head q high K V mask s1) (select low (swap (head (swap q) high K V mask s0)) zeros)

/-- The three blocks of keys in a column. -/
def stack (a b c : FVec F S128x128 .f32) : FVec F S384x128 .bf16 :=
  truncf .bf16 (concatenate S384x128 0 [⟨S128x128, a⟩, ⟨S128x128, b⟩, ⟨S128x128, c⟩]
    concatenates_S128x128_S128x128_S128x128_S384x128_d0) bitsLt_bf16_f32

/-- The three blocks of values in a column. -/
def stackV (a b c : FVec F S128x256 .f32) : FVec F S384x256 .bf16 :=
  truncf .bf16 (concatenate S384x256 0 [⟨S128x256, a⟩, ⟨S128x256, b⟩, ⟨S128x256, c⟩]
    concatenates_S128x256_S128x256_S128x256_S384x256_d0) bitsLt_bf16_f32

/-- The mask at sequence block `n`: the band, less the rows before the first block and after the last. -/
def bandMask (n : BitVec 32) : IVec S128x384 1 :=
  k0_pay59 n (iota .tc S128x384 32 [1] iota_S128x384_d1_w32) k0_pay58 (Scalar.cmpi .sgt n 0#32)

/-- The heads of one key block's chunk at column `o`, normed and rotated. -/
def keyPart (o : Fin 2 → Nat) (h : S128x256.Slices o S128x128) (x : FVec F S128x256 .f32) (g : FVec F S1x128 .f32)
    (c s : FVec F S128x128 .f32) : FVec F S128x128 .f32 :=
  normRope (extractStridedSlice S128x128 o x h) g c s

/-- A pair of query heads, normed and rotated. -/
def queryPair (o : Fin 2 → Nat) (h : S128x1024.Slices o S128x128) (x : FVec F S128x1024 .f32) (g : FVec F S1x128 .f32)
    (c s : FVec F S128x128 .f32) : FVec F S128x128 .f32 :=
  normRope (extractStridedSlice S128x128 o x h) g c s

/-- The sink of head `i` of the sixteen. -/
def sinkAt (x0 : Vec F S16 .f32) (i : Fin 16) : Elt F .f32 := x0 (fun a => match a with | ⟨0, _⟩ => i)

/-- The eight pairs of heads side by side, from their queries, the keys and the values. -/
def assemble (Q0 Q1 Q2 Q3 Q4 Q5 Q6 Q7 : FVec F S128x128 .f32) (K0 K1 : FVec F S384x128 .bf16) (W : FVec F S384x256 .bf16)
    (M : IVec S128x384 1) (x0 : Vec F S16 .f32) : FVec F S128x1024 .f32 :=
  concatenate S128x1024 1
    [⟨S128x128, pairE Q0 K0 (extractStridedSlice S384x128 ![0, 0] W slices_S384x256_o0_0_S384x128) M
       (sinkAt x0 0) (sinkAt x0 1)⟩,
     ⟨S128x128, pairE Q1 K0 (extractStridedSlice S384x128 ![0, 0] W slices_S384x256_o0_0_S384x128) M
       (sinkAt x0 2) (sinkAt x0 3)⟩,
     ⟨S128x128, pairO Q2 K0 (extractStridedSlice S384x128 ![0, 0] W slices_S384x256_o0_0_S384x128) M
       (sinkAt x0 4) (sinkAt x0 5)⟩,
     ⟨S128x128, pairO Q3 K0 (extractStridedSlice S384x128 ![0, 0] W slices_S384x256_o0_0_S384x128) M
       (sinkAt x0 6) (sinkAt x0 7)⟩,
     ⟨S128x128, pairE Q4 K1 (extractStridedSlice S384x128 ![0, 128] W slices_S384x256_o0_128_S384x128) M
       (sinkAt x0 8) (sinkAt x0 9)⟩,
     ⟨S128x128, pairE Q5 K1 (extractStridedSlice S384x128 ![0, 128] W slices_S384x256_o0_128_S384x128) M
       (sinkAt x0 10) (sinkAt x0 11)⟩,
     ⟨S128x128, pairO Q6 K1 (extractStridedSlice S384x128 ![0, 128] W slices_S384x256_o0_128_S384x128) M
       (sinkAt x0 12) (sinkAt x0 13)⟩,
     ⟨S128x128, pairO Q7 K1 (extractStridedSlice S384x128 ![0, 128] W slices_S384x256_o0_128_S384x128) M
       (sinkAt x0 14) (sinkAt x0 15)⟩]
    concatenates_S128x128_S128x128_S128x128_S128x128_S128x128_S128x128_S128x128_S128x128_S128x1024_d1

/-- The whole body, from the input blocks. -/
def body (n : BitVec 32) (x0 : Vec F S16 .f32) (x1 : Vec F S128x1024 .f32) (x2 x3 x4 x5 x6 x7 : Vec F S128x256 .f32)
    (x8 x9 x10 x11 x12 x13 : Vec F S128x128 .f32) (x14 x15 : Vec F S1x128 .f32) : FVec F S128x1024 .f32 :=
  assemble
    (queryPair ![0, 0] slices_S128x1024_o0_0_S128x128 x1 x14 x9 x12)
    (queryPair ![0, 128] slices_S128x1024_o0_128_S128x128 x1 x14 x9 x12)
    (queryPair ![0, 256] slices_S128x1024_o0_256_S128x128 x1 x14 x9 x12)
    (queryPair ![0, 384] slices_S128x1024_o0_384_S128x128 x1 x14 x9 x12)
    (queryPair ![0, 512] slices_S128x1024_o0_512_S128x128 x1 x14 x9 x12)
    (queryPair ![0, 640] slices_S128x1024_o0_640_S128x128 x1 x14 x9 x12)
    (queryPair ![0, 768] slices_S128x1024_o0_768_S128x128 x1 x14 x9 x12)
    (queryPair ![0, 896] slices_S128x1024_o0_896_S128x128 x1 x14 x9 x12)
    (stack (keyPart ![0, 0] slices_S128x256_o0_0_S128x128 x2 x15 x8 x11)
    (keyPart ![0, 0] slices_S128x256_o0_0_S128x128 x3 x15 x9 x12)
    (keyPart ![0, 0] slices_S128x256_o0_0_S128x128 x4 x15 x10 x13))
    (stack (keyPart ![0, 128] slices_S128x256_o0_128_S128x128 x2 x15 x8 x11)
    (keyPart ![0, 128] slices_S128x256_o0_128_S128x128 x3 x15 x9 x12)
    (keyPart ![0, 128] slices_S128x256_o0_128_S128x128 x4 x15 x10 x13))
    (stackV x5 x6 x7) (bandMask n) x0

variable (m : (ℓ : Loc nD τ sig) → Buf (Elt F) ℓ)

/-- A scalar load of the sinks reads the sink of its place. -/
theorem ld_sink (x0 : Vec F S16 .f32) (n : Nat) (i : Fin 16) (hi : i.val = n)
    (h : ∀ a, (![n] : Fin 1 → Nat) a + S1.size a ≤ S16.size a) (e : S1.numel = 1) :
    View.ld x0 (Rect.unit (s := S16) ![n] S1.size h) (Shape.Idx.first (e.symm ▸ Nat.one_pos)) = sinkAt x0 i := by
  subst hi
  exact congrArg x0 (funext fun a => by match a with | ⟨0, _⟩ => exact Fin.ext (Nat.add_zero _))

set_option maxHeartbeats 4000000 in
/-- What grid point `t` leaves in the output block is `body` of its input blocks. -/
theorem outsAt_eq (c : Dev nD) (t : Fin cfg0.N) :
    outsAt0 m c t = body (BitVec.ofNat 32 (grid0.coords t 2).val) (iblk m c 0 t) (X0_1 m c t) (iblk m c 2 t)
      (iblk m c 3 t) (iblk m c 4 t) (iblk m c 5 t) (iblk m c 6 t) (iblk m c 7 t) (iblk m c 8 t) (iblk m c 9 t)
      (iblk m c 10 t) (iblk m c 11 t) (iblk m c 12 t) (iblk m c 13 t) (iblk m c 14 t) (iblk m c 15 t) := by
  unfold outsAt0
  frame_out
  rw [ld_sink _ 0 0 rfl _ rfl, ld_sink _ 1 1 rfl _ rfl, ld_sink _ 2 2 rfl _ rfl, ld_sink _ 3 3 rfl _ rfl, ld_sink _ 4 4 rfl _ rfl, ld_sink _ 5 5 rfl _ rfl, ld_sink _ 6 6 rfl _ rfl, ld_sink _ 7 7 rfl _ rfl, ld_sink _ 8 8 rfl _ rfl, ld_sink _ 9 9 rfl _ rfl, ld_sink _ 10 10 rfl _ rfl, ld_sink _ 11 11 rfl _ rfl, ld_sink _ 12 12 rfl _ rfl, ld_sink _ 13 13 rfl _ rfl, ld_sink _ 14 14 rfl _ rfl, ld_sink _ 15 15 rfl _ rfl]
  generalize X0_1 m c t = x1
  generalize iblk m c 0 t = x0
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  generalize iblk m c 15 t = x15
  generalize BitVec.ofNat 32 (grid0.coords t 2).val = n
  generalize hW : k0_pay57 (F := F) _ _ _ = W
  generalize hM : k0_pay59 _ _ _ _ = M
  generalize h7 : k0_pay28 (F := F) _ _ _ _ _ _ = Q7
  generalize h6 : k0_pay27 (F := F) _ _ _ _ _ = Q6
  generalize h5 : k0_pay24 (F := F) _ _ _ _ _ _ _ _ = Q5
  generalize h4 : k0_pay20 (F := F) _ _ _ _ _ _ = Q4
  generalize h3 : k0_pay19 (F := F) _ _ _ _ _ _ = Q3
  generalize h2 : k0_pay16 (F := F) _ _ _ _ _ _ = Q2
  generalize h1 : k0_pay15 (F := F) _ _ = Q1
  generalize h0 : k0_pay11 (F := F) _ _ _ _ _ _ _ _ = Q0
  generalize hK1 : k0_pay56 (F := F) _ _ _ _ _ _ _ _ = K1
  generalize hK0 : k0_pay55 (F := F) _ _ _ = K0
  have eW : W = stackV x5 x6 x7 := hW.symm
  have eM : M = bandMask n := hM.symm
  have e0 : Q0 = queryPair ![0, 0] slices_S128x1024_o0_0_S128x128 x1 x14 x9 x12 := h0.symm
  have e1 : Q1 = queryPair ![0, 128] slices_S128x1024_o0_128_S128x128 x1 x14 x9 x12 := h1.symm
  have e2 : Q2 = queryPair ![0, 256] slices_S128x1024_o0_256_S128x128 x1 x14 x9 x12 := h2.symm
  have e3 : Q3 = queryPair ![0, 384] slices_S128x1024_o0_384_S128x128 x1 x14 x9 x12 := h3.symm
  have e4 : Q4 = queryPair ![0, 512] slices_S128x1024_o0_512_S128x128 x1 x14 x9 x12 := h4.symm
  have e5 : Q5 = queryPair ![0, 640] slices_S128x1024_o0_640_S128x128 x1 x14 x9 x12 := h5.symm
  have e6 : Q6 = queryPair ![0, 768] slices_S128x1024_o0_768_S128x128 x1 x14 x9 x12 := h6.symm
  have e7 : Q7 = queryPair ![0, 896] slices_S128x1024_o0_896_S128x128 x1 x14 x9 x12 := h7.symm
  have eK0 : K0 = stack (keyPart ![0, 0] slices_S128x256_o0_0_S128x128 x2 x15 x8 x11)
    (keyPart ![0, 0] slices_S128x256_o0_0_S128x128 x3 x15 x9 x12)
    (keyPart ![0, 0] slices_S128x256_o0_0_S128x128 x4 x15 x10 x13) := hK0.symm
  have eK1 : K1 = stack (keyPart ![0, 128] slices_S128x256_o0_128_S128x128 x2 x15 x8 x11)
    (keyPart ![0, 128] slices_S128x256_o0_128_S128x128 x3 x15 x9 x12)
    (keyPart ![0, 128] slices_S128x256_o0_128_S128x128 x4 x15 x10 x13) := hK1.symm
  unfold body
  rw [← e0, ← e1, ← e2, ← e3, ← e4, ← e5, ← e6, ← e7, ← eK0, ← eK1, ← eW, ← eM]
  clear e0 e1 e2 e3 e4 e5 e6 e7 eK0 eK1 eW
  subst hM
  rfl

end Cert.Proof.Body
-- ==== Proof.Read.lean ====
/- The body's vector functions read at an index, over the extended reals. -/
module

public import proofs.«01_k».proof.Proof.Body
public import proofs.«01_k».proof.Proof.Spec

@[expose] public section

set_option maxRecDepth 16384

noncomputable section

namespace Cert.Proof.Read

open Cert.KernelIdeal Cert.KernelIdeal.Gen Idealize.ShloMosaic Cert.Proof.Body Cert.Proof.Spec

/-- Lane `e` of head `b` of a pair. -/
def lane (b : Fin 2) (e : Fin 64) : Fin 128 := ⟨64 * b.val + e.val, by omega⟩

/-- A choice by a one-bit word that holds a proposition is that proposition's choice. -/
theorem select_ofBool {α : Type} (p : Bool) (a b : α) : Scalar.select (BitVec.ofBool p) a b = if p then a else b := by
  cases p <;> rfl

theorem low_apply (r j : Fin 128) : low (ix2 r j) = BitVec.ofBool (decide (j.val < 64)) := by
  pointwise [low]
  revert j; decide

theorem high_apply (r j : Fin 128) : high (ix2 r j) = BitVec.ofBool (decide (64 ≤ j.val)) := by
  pointwise [high]
  revert j; decide

theorem first_apply (r j : Fin 128) : k0_pay6 (ix2 r j) = BitVec.ofBool (decide (j.val % 64 < 32)) := by
  pointwise [k0_pay6]
  revert j; decide

/-- A sum over the lanes of the lower head alone, -/
theorem sum_low (f : Fin 128 → EReal) : (∑ j : Fin 128, if j.val < 64 then f j else 0) = ∑ e : Fin 64, f (lane 0 e) := by
  rw [Fin.sum_univ_two_halves 64 64 rfl]
  have h : ∀ e : Fin 64, ¬ (64 + e.val < 64) := fun e => by omega
  simp only [Fin.is_lt, ↓reduceIte, h, Finset.sum_const_zero, add_zero]
  refine Finset.sum_congr rfl fun e _ => congrArg f (Fin.ext ?_)
  simp only [lane]; omega

/-- and of the upper head alone. -/
theorem sum_high (f : Fin 128 → EReal) : (∑ j : Fin 128, if j.val < 64 then 0 else f j) = ∑ e : Fin 64, f (lane 1 e) := by
  rw [Fin.sum_univ_two_halves 64 64 rfl]
  have h : ∀ e : Fin 64, ¬ (64 + e.val < 64) := fun e => by omega
  simp only [Fin.is_lt, ↓reduceIte, h, Finset.sum_const_zero, zero_add]
  refine Finset.sum_congr rfl fun e _ => congrArg f (Fin.ext ?_)
  simp only [lane]; omega

/-- The norm of each head of a pair. -/
theorem normed_apply (x : FVec Ideal S128x128 .f32) (g : FVec Ideal S1x128 .f32) (r : Fin 128) (b : Fin 2) (e : Fin 64) :
    normed x g (ix2 r (lane b e)) = nrm (fun e => x (ix2 r (lane b e))) (fun e => g (ix2 0 (lane b e))) e := by
  pointwise [normed, spread, rowSum, column, zeros]
  simp only [low_apply, select_ofBool, decide_eq_true_eq, sum_low, sum_high]
  unfold nrm
  rw [div_64]
  fin_cases b
  · rw [if_pos (by simp only [lane]; omega)]; rfl
  · rw [if_neg (by simp only [lane]; omega)]; rfl

/-- The rotation of each head of a pair, the tables holding the cosines and the signed sines. -/
theorem roped_apply (y c s : FVec Ideal S128x128 .f32) (r : Fin 128) (cs sn : Fin 32 → EReal)
    (hc : ∀ b e, c (ix2 r (lane b e)) = cs (half e))
    (hs : ∀ b e, s (ix2 r (lane b e)) = if e.val < 32 then -sn (half e) else sn (half e)) (b : Fin 2) (e : Fin 64) :
    roped y c s (ix2 r (lane b e)) = rot (fun e => y (ix2 r (lane b e))) cs sn e := by
  pointwise [roped]
  simp only [first_apply, select_ofBool, decide_eq_true_eq, hc, hs]
  unfold rot
  by_cases h : e.val < 32
  · have h1 : (lane b e).val % 64 < 32 := by simp only [lane]; omega
    rw [if_pos h1, if_pos h, if_pos h, mul_neg, ← sub_eq_add_neg]
    congr 4
    · exact congrArg _ (Fin.ext (by simp only [lo, half]; omega))
    · exact Fin.ext (by simp only [lane, hi, half]; omega)
  · have h1 : ¬ (lane b e).val % 64 < 32 := by simp only [lane]; omega
    rw [if_neg h1, if_neg h, if_neg h]
    congr 4
    · exact congrArg _ (Fin.ext (by simp only [hi, half]; omega))
    · exact Fin.ext (by simp only [lane, lo, half]; omega)

/-- The scores of a head whose keys lie in the lanes of head `b` of a pair. -/
theorem scores_low (q : FVec Ideal S128x128 .f32) (K : FVec Ideal S384x128 .bf16) (M : IVec S128x384 1) (r : Fin 128)
    (k : Fin 384) (p : Prop) [Decidable p] (hM : M (ix2 r k) = BitVec.ofBool (decide p)) :
    scores q low K M (ix2 r k) = score p (fun e => q (ix2 r (lane 0 e))) (fun e => K (ix2 k (lane 0 e))) := by
  pointwise [scores, zeros]
  simp only [hM, low_apply, select_ofBool, decide_eq_true_eq, sum_low (fun x => q (ix2 r x) * K (ix2 k x))]
  rfl

/-- The scores of a head whose keys lie in the upper lanes. -/
theorem scores_high (q : FVec Ideal S128x128 .f32) (K : FVec Ideal S384x128 .bf16) (M : IVec S128x384 1) (r : Fin 128)
    (k : Fin 384) (p : Prop) [Decidable p] (hM : M (ix2 r k) = BitVec.ofBool (decide p)) :
    scores q high K M (ix2 r k) = score p (fun e => q (ix2 r (lane 1 e))) (fun e => K (ix2 k (lane 1 e))) := by
  pointwise [scores, zeros]
  have hn : ∀ (j : Fin 128) (a : EReal), (if 64 ≤ j.val then a else 0) = if j.val < 64 then 0 else a := fun j a => by
    by_cases h : j.val < 64
    · rw [if_pos h, if_neg (by omega)]
    · rw [if_neg h, if_pos (by omega)]
  simp only [hM, high_apply, select_ofBool, decide_eq_true_eq, hn, sum_high (fun x => q (ix2 r x) * K (ix2 k x))]
  rfl

/-- The softmax with the sink, and its product with the values. -/
theorem attend_apply (s : FVec Ideal S128x384 .f32) (V : FVec Ideal S384x128 .bf16) (sk : Elt Ideal .f32) (r j : Fin 128) :
    attend s V sk (ix2 r j) = attnRow (fun k => s (ix2 r k)) (fun k => V (ix2 k j)) sk := by
  pointwise [attend, mixed, weights, rowMax, denom, column]
  rfl

/-- The two heads of a pair exchanged. -/
theorem swap_apply (x : FVec Ideal S128x128 .f32) (r : Fin 128) (b : Fin 2) (e : Fin 64) :
    swap x (ix2 r (lane b e)) = x (ix2 r (lane (1 - b) e)) := by
  pointwise [swap]
  congr 2
  refine Fin.ext ?_
  fin_cases b <;> simp [lane] <;> omega

/-- A pair of heads, keys in the lower lanes: both lanes' heads attend to them. -/
theorem pairE_apply (q : FVec Ideal S128x128 .f32) (K V : FVec Ideal S384x128 .bf16) (M : IVec S128x384 1)
    (sk : Fin 2 → Elt Ideal .f32) (r : Fin 128) (p : Fin 384 → Prop) [DecidablePred p]
    (hM : ∀ k, M (ix2 r k) = BitVec.ofBool (decide (p k))) (b : Fin 2) (e : Fin 64) :
    pairE q K V M (sk 0) (sk 1) (ix2 r (lane b e))
      = attnRow (fun k => score (p k) (fun e => q (ix2 r (lane b e))) (fun e => K (ix2 k (lane 0 e))))
          (fun k => V (ix2 k (lane 0 e))) (sk b) := by
  pointwise [pairE]
  simp only [low_apply, high_apply, select_ofBool, decide_eq_true_eq, swap_apply, head, attend_apply,
    scores_low _ _ _ _ _ _ (hM _)]
  fin_cases b
  · rw [if_neg (by simp only [lane]; omega), if_pos (by simp only [lane]; omega)]; rfl
  · rw [if_pos (by simp only [lane]; omega)]; rfl

/-- A pair of heads, keys in the upper lanes. -/
theorem pairO_apply (q : FVec Ideal S128x128 .f32) (K V : FVec Ideal S384x128 .bf16) (M : IVec S128x384 1)
    (sk : Fin 2 → Elt Ideal .f32) (r : Fin 128) (p : Fin 384 → Prop) [DecidablePred p]
    (hM : ∀ k, M (ix2 r k) = BitVec.ofBool (decide (p k))) (b : Fin 2) (e : Fin 64) :
    pairO q K V M (sk 0) (sk 1) (ix2 r (lane b e))
      = attnRow (fun k => score (p k) (fun e => q (ix2 r (lane b e))) (fun e => K (ix2 k (lane 1 e))))
          (fun k => V (ix2 k (lane 1 e))) (sk b) := by
  pointwise [pairO]
  simp only [low_apply, high_apply, select_ofBool, decide_eq_true_eq, swap_apply, head, attend_apply,
    scores_high _ _ _ _ _ _ (hM _)]
  fin_cases b
  · rw [if_neg (by simp only [lane]; omega), if_pos (by simp only [lane]; omega)]; rfl
  · rw [if_pos (by simp only [lane]; omega)]; rfl

end Cert.Proof.Read
-- ==== Proof.Tables.lean ====
/- The kernel's host tables, read at an element: the rotation's cosines and signed sines on all lanes, and the gains twice. -/
module

public import proofs.«01_k».proof.Proof.Layer
public import proofs.«01_k».proof.Proof.Read
public import Idealize.ShloMosaic.Lib.StableHlo.ReadAt

@[expose] public section

set_option maxRecDepth 16384

noncomputable section

namespace Cert.Proof.Tables

open Cert.KernelIdeal Cert.KernelIdeal.Gen Cert.KernelIdeal.Value Idealize.ShloMosaic Idealize.ShloMosaic.StableHlo
open Idealize.ShloMosaic.TcCoe Idealize.SL.Sem Cert.Proof.Spec Cert.Proof.Layer Cert.Proof.Read

variable (m : (ℓ : Loc nD τ sig) → Buf (Elt Ideal) ℓ) (c : Dev nD)

theorem lane_mod (b : Fin 2) (e : Fin 64) : (lane b e).val % 64 = e.val := by
  show (64 * b.val + e.val) % 64 = e.val; omega

/-- The cosines, on all lanes. -/
theorem cos_apply (p : Fin 16384) (b : Fin 2) (e : Fin 64) : V m c main_v18 (ix2 p (lane b e)) = cosT p.val (half e) := by
  unfold V
  after_reads_at
  after_reads_at
  show (if h : _ then _ else _ : EReal) = _
  have hm := lane_mod b e
  by_cases h : (lane b e).val % 64 < 32
  · refine (dif_pos h).trans ?_
    have : (lane b e).val % 64 = (half e).val := by simp only [half]; omega
    rw [this]; rfl
  · refine (dif_neg h).trans ?_
    have : (lane b e).val % 64 - 32 = (half e).val := by simp only [half]; omega
    rw [this]; rfl

/-- The sines, negated on a head's lower lanes. -/
theorem sin_apply (p : Fin 16384) (b : Fin 2) (e : Fin 64) :
    V m c main_v23 (ix2 p (lane b e)) = if e.val < 32 then -sinT p.val (half e) else sinT p.val (half e) := by
  unfold V
  after_reads_at
  after_reads_at
  show (if h : _ then _ else _ : EReal) = _
  have hm := lane_mod b e
  by_cases h : (lane b e).val % 64 < 32
  · refine (dif_pos h).trans ?_
    have : (lane b e).val % 64 = (half e).val := by simp only [half]; omega
    rw [this, if_pos (by omega)]; rfl
  · refine (dif_neg h).trans ?_
    have : (lane b e).val % 64 - 32 = (half e).val := by simp only [half]; omega
    rw [this, if_neg (by omega)]; rfl

/-- The queries' gains, twice -/
theorem gq_apply (b : Fin 2) (e : Fin 64) : V m c main_v27 (ix2 0 (lane b e)) = m (c, Proc.tc.devRef main_arg1) (ix1 e) := by
  unfold V
  after_reads_at
  pointwise
  exact congrArg (fun q => m (c, Proc.tc.devRef main_arg1) (ix1 q)) (Fin.ext (lane_mod b e))

/-- and the keys'. -/
theorem gk_apply (b : Fin 2) (e : Fin 64) : V m c main_v31 (ix2 0 (lane b e)) = m (c, Proc.tc.devRef main_arg2) (ix1 e) := by
  unfold V
  after_reads_at
  pointwise
  exact congrArg (fun q => m (c, Proc.tc.devRef main_arg2) (ix1 q)) (Fin.ext (lane_mod b e))

end Cert.Proof.Tables
-- ==== Proof.Block.lean ====
/- The body of one grid point read at an index of its block: each element is a softmax row of the layer's attention over the
   three key blocks. -/
module

public import proofs.«01_k».proof.Proof.Read
public import Idealize.ShloMosaic.Lib.Pointwise.IndexVar
public import Idealize.ShloMosaic.Lib.Tactic.WordOmega

@[expose] public section

set_option maxRecDepth 16384

noncomputable section

namespace Cert.Proof.Block

open Cert.KernelIdeal Cert.KernelIdeal.Gen Idealize.ShloMosaic Cert.Proof.Body Cert.Proof.Spec Cert.Proof.Read

/-- The three blocks in a column hold `f` where each holds its part of it. -/
theorem stack_apply (a b c : FVec Ideal S128x128 .f32) (f : Fin 384 → EReal) (l : Fin 128)
    (ha : ∀ r : Fin 128, a (ix2 r l) = f ⟨r.val, by omega⟩) (hb : ∀ r : Fin 128, b (ix2 r l) = f ⟨128 + r.val, by omega⟩)
    (hc : ∀ r : Fin 128, c (ix2 r l) = f ⟨256 + r.val, by omega⟩) (k : Fin 384) : stack a b c (ix2 k l) = f k := by
  pointwise [stack]
  by_cases h1 : k.val < 128
  · simp only [h1, ↓reduceDIte]
    exact ha ⟨k.val, h1⟩
  · by_cases h2 : k.val - 128 < 128
    · simp only [h1, h2, ↓reduceDIte]
      exact (hb ⟨k.val - 128, h2⟩).trans (congrArg f (Fin.ext (by simp only []; omega)))
    · simp only [h1, h2, ↓reduceDIte]
      exact (hc ⟨k.val - 128 - 128, by omega⟩).trans (congrArg f (Fin.ext (by simp only []; omega)))

/-- The same for the values. -/
theorem stackV_apply (a b c : FVec Ideal S128x256 .f32) (f : Fin 384 → EReal) (l : Fin 256)
    (ha : ∀ r : Fin 128, a (ix2 r l) = f ⟨r.val, by omega⟩) (hb : ∀ r : Fin 128, b (ix2 r l) = f ⟨128 + r.val, by omega⟩)
    (hc : ∀ r : Fin 128, c (ix2 r l) = f ⟨256 + r.val, by omega⟩) (k : Fin 384) : stackV a b c (ix2 k l) = f k := by
  pointwise [stackV]
  by_cases h1 : k.val < 128
  · simp only [h1, ↓reduceDIte]
    exact ha ⟨k.val, h1⟩
  · by_cases h2 : k.val - 128 < 128
    · simp only [h1, h2, ↓reduceDIte]
      exact (hb ⟨k.val - 128, h2⟩).trans (congrArg f (Fin.ext (by simp only []; omega)))
    · simp only [h1, h2, ↓reduceDIte]
      exact (hc ⟨k.val - 128 - 128, by omega⟩).trans (congrArg f (Fin.ext (by simp only []; omega)))

/-- Norm and rotation of a head of a pair. -/
theorem normRope_apply (x : FVec Ideal S128x128 .f32) (g : FVec Ideal S1x128 .f32) (c s : FVec Ideal S128x128 .f32) (r : Fin 128)
    (gq : Fin 64 → EReal) (cs sn : Fin 32 → EReal) (hg : ∀ b e, g (ix2 0 (lane b e)) = gq e)
    (hc : ∀ b e, c (ix2 r (lane b e)) = cs (half e))
    (hs : ∀ b e, s (ix2 r (lane b e)) = if e.val < 32 then -sn (half e) else sn (half e)) (b : Fin 2) (e : Fin 64) :
    normRope x g c s (ix2 r (lane b e)) = rot (nrm (fun e => x (ix2 r (lane b e))) gq) cs sn e := by
  unfold normRope
  rw [roped_apply _ _ _ r cs sn hc hs]
  congr 1
  funext e
  rw [normed_apply]
  simp only [hg]

/-- A pair of query heads out of the query block. -/
theorem queryPair_apply (o : Nat) (h : S128x1024.Slices ![0, o] S128x128) (ho : o + 128 ≤ 1024) (x : FVec Ideal S128x1024 .f32)
    (g : FVec Ideal S1x128 .f32) (c s : FVec Ideal S128x128 .f32) (r : Fin 128)
    (gq : Fin 64 → EReal) (cs sn : Fin 32 → EReal) (hg : ∀ b e, g (ix2 0 (lane b e)) = gq e)
    (hc : ∀ b e, c (ix2 r (lane b e)) = cs (half e))
    (hs : ∀ b e, s (ix2 r (lane b e)) = if e.val < 32 then -sn (half e) else sn (half e)) (b : Fin 2) (e : Fin 64) :
    queryPair ![0, o] h x g c s (ix2 r (lane b e))
      = rot (nrm (fun e => x (ix2 r ⟨o + (64 * b.val + e.val), by omega⟩)) gq) cs sn e := by
  unfold queryPair
  rw [normRope_apply _ _ _ _ r gq cs sn hg hc hs]
  congr 2
  funext e
  exact congrArg x (funext fun a => by match a with | ⟨0, _⟩ => exact Fin.ext (Nat.zero_add _) | ⟨1, _⟩ => rfl)

/-- A pair of key heads out of a key block. -/
theorem keyPart_apply (o : Nat) (h : S128x256.Slices ![0, o] S128x128) (ho : o + 128 ≤ 256) (x : FVec Ideal S128x256 .f32)
    (g : FVec Ideal S1x128 .f32) (c s : FVec Ideal S128x128 .f32) (r : Fin 128)
    (gq : Fin 64 → EReal) (cs sn : Fin 32 → EReal) (hg : ∀ b e, g (ix2 0 (lane b e)) = gq e)
    (hc : ∀ b e, c (ix2 r (lane b e)) = cs (half e))
    (hs : ∀ b e, s (ix2 r (lane b e)) = if e.val < 32 then -sn (half e) else sn (half e)) (b : Fin 2) (e : Fin 64) :
    keyPart ![0, o] h x g c s (ix2 r (lane b e))
      = rot (nrm (fun e => x (ix2 r ⟨o + (64 * b.val + e.val), by omega⟩)) gq) cs sn e := by
  unfold keyPart
  rw [normRope_apply _ _ _ _ r gq cs sn hg hc hs]
  congr 2
  funext e
  exact congrArg x (funext fun a => by match a with | ⟨0, _⟩ => exact Fin.ext (Nat.zero_add _) | ⟨1, _⟩ => rfl)

/-- Eight blocks side by side: block `j` lies in the lanes from `128 j` on. -/
theorem side_apply (P : Fin 8 → FVec Ideal S128x128 .f32) (r l : Fin 128) (j : Fin 8) :
    concatenate S128x1024 1 [⟨S128x128, P 0⟩, ⟨S128x128, P 1⟩, ⟨S128x128, P 2⟩, ⟨S128x128, P 3⟩, ⟨S128x128, P 4⟩,
      ⟨S128x128, P 5⟩, ⟨S128x128, P 6⟩, ⟨S128x128, P 7⟩]
      concatenates_S128x128_S128x128_S128x128_S128x128_S128x128_S128x128_S128x128_S128x128_S128x1024_d1
      (ix2 r ⟨128 * j.val + l.val, by omega⟩) = P j (ix2 r l) := by
  pointwise []
  have hl := l.isLt
  have key : ∀ (i : Fin 8) (n : Nat) (hn : n < 128), j = i → n = l.val → P i (ix2 r ⟨n, hn⟩) = P j (ix2 r l) := by
    rintro i n hn rfl rfl; rfl
  by_cases h0 : 128 * j.val + l.val < 128
  · simp only [h0, ↓reduceDIte]
    exact key 0 _ _ (Fin.ext (by show j.val = 0; omega)) (by omega)
  by_cases h1 : 128 * j.val + l.val - 128 < 128
  · simp only [h0, h1, ↓reduceDIte]
    exact key 1 _ _ (Fin.ext (by show j.val = 1; omega)) (by omega)
  by_cases h2 : 128 * j.val + l.val - 128 - 128 < 128
  · simp only [h0, h1, h2, ↓reduceDIte]
    exact key 2 _ _ (Fin.ext (by show j.val = 2; omega)) (by omega)
  by_cases h3 : 128 * j.val + l.val - 128 - 128 - 128 < 128
  · simp only [h0, h1, h2, h3, ↓reduceDIte]
    exact key 3 _ _ (Fin.ext (by show j.val = 3; omega)) (by omega)
  by_cases h4 : 128 * j.val + l.val - 128 - 128 - 128 - 128 < 128
  · simp only [h0, h1, h2, h3, h4, ↓reduceDIte]
    exact key 4 _ _ (Fin.ext (by show j.val = 4; omega)) (by omega)
  by_cases h5 : 128 * j.val + l.val - 128 - 128 - 128 - 128 - 128 < 128
  · simp only [h0, h1, h2, h3, h4, h5, ↓reduceDIte]
    exact key 5 _ _ (Fin.ext (by show j.val = 5; omega)) (by omega)
  by_cases h6 : 128 * j.val + l.val - 128 - 128 - 128 - 128 - 128 - 128 < 128
  · simp only [h0, h1, h2, h3, h4, h5, h6, ↓reduceDIte]
    exact key 6 _ _ (Fin.ext (by show j.val = 6; omega)) (by omega)
  simp only [h0, h1, h2, h3, h4, h5, h6, ↓reduceDIte]
  exact key 7 _ _ (Fin.ext (by show j.val = 7; omega)) (by omega)

end Cert.Proof.Block
-- ==== Proof.Mask.lean ====
/- The mask of one grid point read at an index. -/
module

public import proofs.«01_k».proof.Proof.Read
public import Idealize.ShloMosaic.Lib.Pointwise.IndexVar
public import Idealize.ShloMosaic.Lib.Tactic.WordOmega

@[expose] public section

set_option maxRecDepth 16384

noncomputable section

namespace Cert.Proof.Mask

open Cert.KernelIdeal Cert.KernelIdeal.Gen Idealize.ShloMosaic Cert.Proof.Body Cert.Proof.Spec Cert.Proof.Read

/-- The distance's part of the mask. -/
theorem near_word : ∀ (r : Fin 128) (k : Fin 384),
    IntOp.cmpi .sle (IntOp.absi (IntOp.subi (IntOp.subi (BitVec.ofNat 32 k.val) 128#32) (BitVec.ofNat 32 r.val))) 128#32
      = BitVec.ofBool (decide (r.val ≤ k.val ∧ k.val ≤ r.val + 256)) := by
  decide +kernel

/-- The lower end's part: the first block sees no keys before it. -/
theorem from_word : ∀ (n : Fin 128) (k : Fin 384),
    IntOp.cmpi .sge (BitVec.ofNat 32 k.val) (Scalar.select (Scalar.cmpi .sgt (BitVec.ofNat 32 n.val) 0#32) 0#32 128#32)
      = BitVec.ofBool (decide (128 ≤ 128 * n.val + k.val)) := by
  decide +kernel

/-- The upper end's part: the last block sees no keys after it. -/
theorem upto_word : ∀ (n : Fin 128) (k : Fin 384),
    IntOp.cmpi .slt (BitVec.ofNat 32 k.val) (Scalar.select (Scalar.cmpi .slt (BitVec.ofNat 32 n.val) 127#32) 384#32 256#32)
      = BitVec.ofBool (decide (128 * n.val + k.val < 16512)) := by
  decide +kernel

/-- The conjunction of two one-bit words. -/
theorem andi_ofBool (a b : Bool) : IntOp.andi (BitVec.ofBool a) (BitVec.ofBool b) = BitVec.ofBool (a && b) := by
  cases a <;> cases b <;> rfl

/-- The mask's word holds `seen`. -/
theorem bandMask_apply (n : Fin 128) (r : Fin 128) (k : Fin 384) :
    bandMask (BitVec.ofNat 32 n.val) (ix2 r k) = BitVec.ofBool (decide (seen n.val r.val k.val)) := by
  pointwise [bandMask, k0_pay59, k0_pay58]
  rw [near_word r k, from_word n k, upto_word n k, andi_ofBool, andi_ofBool]
  refine congrArg BitVec.ofBool ?_
  rw [← Bool.decide_and, ← Bool.decide_and]
  exact decide_eq_decide.mpr (by unfold seen; omega)

end Cert.Proof.Mask
-- ==== Proof.Pairs.lean ====
/- The body of one grid point read at an index of its block: each element is a softmax row of the layer's attention over the
   three key blocks. -/
module

public import proofs.«01_k».proof.Proof.Block
public import proofs.«01_k».proof.Proof.Mask

@[expose] public section

set_option maxRecDepth 16384

noncomputable section

namespace Cert.Proof.Pairs

open Cert.KernelIdeal Cert.KernelIdeal.Gen Idealize.ShloMosaic Cert.Proof.Body Cert.Proof.Spec Cert.Proof.Read Cert.Proof.Block Cert.Proof.Mask

theorem lt0 (r : Fin 128) : r.val < 384 := by omega
theorem lt1 (r : Fin 128) : 128 + r.val < 384 := by omega
theorem lt2 (r : Fin 128) : 256 + r.val < 384 := by omega
theorem col_lt (j : Fin 8) (b : Fin 2) (e : Fin 64) : 128 * j.val + (64 * b.val + e.val) < 1024 := by omega
theorem key_lt (j : Fin 8) (e : Fin 64) : 64 * (j.val / 2) + e.val < 256 := by omega
theorem sink_lt (j : Fin 8) (b : Fin 2) : 2 * j.val + b.val < 16 := by omega

/-- Two consecutive sinks. -/
def sinks (x0 : Vec Ideal S16 .f32) (i i' : Fin 16) (b : Fin 2) : Elt Ideal .f32 := if b = 0 then sinkAt x0 i else sinkAt x0 i'

theorem sinks_apply (x0 : Vec Ideal S16 .f32) (i i' : Fin 16) (j : Fin 8) (hi : i.val = 2 * j.val) (hi' : i'.val = 2 * j.val + 1)
    (b : Fin 2) : sinks x0 i i' b = x0 (ix1 ⟨2 * j.val + b.val, sink_lt j b⟩) := by
  have h : ∀ (i : Fin 16) (n : Nat) (hn : n < 16), i.val = n → sinkAt x0 i = x0 (ix1 ⟨n, hn⟩) := by
    rintro i n hn rfl
    exact congrArg x0 (funext fun a => by match a with | ⟨0, _⟩ => rfl)
  match b with
  | 0 => exact h i _ _ hi
  | 1 => exact h i' _ _ hi'

/-- The row of a block's query head `2 j + b`, its keys and values those of head `j / 2`. -/
def blockRow (n : Nat) (x0 : Vec Ideal S16 .f32) (x1 : Vec Ideal S128x1024 .f32) (kb vb : Fin 384 → Fin 256 → EReal)
    (gq gk : Fin 64 → EReal) (cs sn : Fin 384 → Fin 32 → EReal) (r : Fin 128) (j : Fin 8) (b : Fin 2) (e : Fin 64) : EReal :=
  attnRow (fun k : Fin 384 => score (seen n r.val k.val)
      (rot (nrm (fun e => x1 (ix2 r ⟨128 * j.val + (64 * b.val + e.val), col_lt j b e⟩)) gq)
        (cs ⟨128 + r.val, lt1 r⟩) (sn ⟨128 + r.val, lt1 r⟩))
      (rot (nrm (fun e => kb k ⟨64 * (j.val / 2) + e.val, key_lt j e⟩) gk) (cs k) (sn k)))
    (fun k => vb k ⟨64 * (j.val / 2) + e.val, key_lt j e⟩) (x0 (ix1 ⟨2 * j.val + b.val, sink_lt j b⟩))

section
variable (n : Fin 128) (x0 : Vec Ideal S16 .f32) (x1 : Vec Ideal S128x1024 .f32) (x2 x3 x4 x5 x6 x7 : Vec Ideal S128x256 .f32)
  (x8 x9 x10 x11 x12 x13 : Vec Ideal S128x128 .f32) (x14 x15 : Vec Ideal S1x128 .f32)
  (kb vb : Fin 384 → Fin 256 → EReal) (gq gk : Fin 64 → EReal) (cs sn : Fin 384 → Fin 32 → EReal)
  (hk0 : ∀ (r : Fin 128) l, x2 (ix2 r l) = kb ⟨r.val, lt0 r⟩ l)
  (hk1 : ∀ (r : Fin 128) l, x3 (ix2 r l) = kb ⟨128 + r.val, lt1 r⟩ l)
  (hk2 : ∀ (r : Fin 128) l, x4 (ix2 r l) = kb ⟨256 + r.val, lt2 r⟩ l)
  (hv0 : ∀ (r : Fin 128) l, x5 (ix2 r l) = vb ⟨r.val, lt0 r⟩ l)
  (hv1 : ∀ (r : Fin 128) l, x6 (ix2 r l) = vb ⟨128 + r.val, lt1 r⟩ l)
  (hv2 : ∀ (r : Fin 128) l, x7 (ix2 r l) = vb ⟨256 + r.val, lt2 r⟩ l)
  (hc0 : ∀ (r : Fin 128) b e, x8 (ix2 r (lane b e)) = cs ⟨r.val, lt0 r⟩ (half e))
  (hc1 : ∀ (r : Fin 128) b e, x9 (ix2 r (lane b e)) = cs ⟨128 + r.val, lt1 r⟩ (half e))
  (hc2 : ∀ (r : Fin 128) b e, x10 (ix2 r (lane b e)) = cs ⟨256 + r.val, lt2 r⟩ (half e))
  (hs0 : ∀ (r : Fin 128) b e, x11 (ix2 r (lane b e))
    = if e.val < 32 then -sn ⟨r.val, lt0 r⟩ (half e) else sn ⟨r.val, lt0 r⟩ (half e))
  (hs1 : ∀ (r : Fin 128) b e, x12 (ix2 r (lane b e))
    = if e.val < 32 then -sn ⟨128 + r.val, lt1 r⟩ (half e) else sn ⟨128 + r.val, lt1 r⟩ (half e))
  (hs2 : ∀ (r : Fin 128) b e, x13 (ix2 r (lane b e))
    = if e.val < 32 then -sn ⟨256 + r.val, lt2 r⟩ (half e) else sn ⟨256 + r.val, lt2 r⟩ (half e))
  (hgq : ∀ b e, x14 (ix2 0 (lane b e)) = gq e) (hgk : ∀ b e, x15 (ix2 0 (lane b e)) = gk e)

include hk0 hk1 hk2 hc0 hc1 hc2 hs0 hs1 hs2 hgk in
/-- The keys of a pair over the three blocks. -/
theorem keys_apply (o : Nat) (h : S128x256.Slices ![0, o] S128x128) (ho : o + 128 ≤ 256) (k : Fin 384) (b : Fin 2) (e : Fin 64) :
    stack (F := Ideal) (keyPart ![0, o] h x2 x15 x8 x11) (keyPart ![0, o] h x3 x15 x9 x12) (keyPart ![0, o] h x4 x15 x10 x13)
      (ix2 k (lane b e))
      = rot (nrm (fun e => kb k ⟨o + (64 * b.val + e.val), by omega⟩) gk) (cs k) (sn k) e :=
  stack_apply _ _ _ (fun k => rot (nrm (fun e => kb k ⟨o + (64 * b.val + e.val), by omega⟩) gk) (cs k) (sn k) e) _
    (fun r => by rw [keyPart_apply o h ho _ _ _ _ r gk _ _ hgk (hc0 r) (hs0 r)]; simp only [hk0])
    (fun r => by rw [keyPart_apply o h ho _ _ _ _ r gk _ _ hgk (hc1 r) (hs1 r)]; simp only [hk1])
    (fun r => by rw [keyPart_apply o h ho _ _ _ _ r gk _ _ hgk (hc2 r) (hs2 r)]; simp only [hk2]) k

include hv0 hv1 hv2 in
/-- The values of a pair over the three blocks. -/
theorem values_apply (o : Nat) (h : S384x256.Slices ![0, o] S384x128) (ho : o + 128 ≤ 256) (k : Fin 384) (b : Fin 2) (e : Fin 64) :
    extractStridedSlice S384x128 ![0, o] (stackV (F := Ideal) x5 x6 x7) h (ix2 k (lane b e))
      = vb k ⟨o + (64 * b.val + e.val), by omega⟩ := by
  have hi : extractStridedSlice S384x128 ![0, o] (stackV (F := Ideal) x5 x6 x7) h (ix2 k (lane b e))
      = stackV x5 x6 x7 (ix2 k ⟨o + (64 * b.val + e.val), by omega⟩) :=
    congrArg (stackV (F := Ideal) x5 x6 x7) (funext fun a => by match a with | ⟨0, _⟩ => exact Fin.ext (Nat.zero_add _) | ⟨1, _⟩ => rfl)
  rw [hi]
  exact stackV_apply _ _ _ (fun k => vb k ⟨o + (64 * b.val + e.val), by omega⟩) _ (fun r => hv0 r _) (fun r => hv1 r _)
    (fun r => hv2 r _) k

include hk0 hk1 hk2 hv0 hv1 hv2 hc0 hc1 hc2 hs0 hs1 hs2 hgq hgk in
/-- The first pair of query heads of each pair of pairs, with the lower key head of key pair `u`. -/
theorem evenPair (o u : Nat) (h : S128x1024.Slices ![0, o] S128x128) (h' : S128x256.Slices ![0, u] S128x128)
    (h'' : S384x256.Slices ![0, u] S384x128) (hu : u + 128 ≤ 256) (i i' : Fin 16) (j : Fin 8) (hj : o = 128 * j.val)
    (ju : u = 64 * (j.val / 2)) (hi : i.val = 2 * j.val) (hi' : i'.val = 2 * j.val + 1) (r : Fin 128) (b : Fin 2) (e : Fin 64) :
    pairE (queryPair ![0, o] h x1 x14 x9 x12)
      (stack (keyPart ![0, u] h' x2 x15 x8 x11) (keyPart ![0, u] h' x3 x15 x9 x12) (keyPart ![0, u] h' x4 x15 x10 x13))
      (extractStridedSlice S384x128 ![0, u] (stackV x5 x6 x7) h'') (bandMask (BitVec.ofNat 32 n.val)) (sinkAt x0 i) (sinkAt x0 i')
      (ix2 r (lane b e)) = blockRow n.val x0 x1 kb vb gq gk cs sn r j b e := by
  subst hj
  refine (pairE_apply _ _ _ _ (sinks x0 i i') r (fun k => seen n.val r.val k.val) (bandMask_apply n r) b e).trans ?_
  unfold blockRow
  simp only [queryPair_apply _ h (by omega) x1 x14 x9 x12 r gq _ _ hgq (hc1 r) (hs1 r),
    keys_apply x2 x3 x4 x8 x9 x10 x11 x12 x13 x15 kb gk cs sn hk0 hk1 hk2 hc0 hc1 hc2 hs0 hs1 hs2 hgk u h' hu,
    values_apply x5 x6 x7 vb hv0 hv1 hv2 u h'' hu, sinks_apply x0 i i' j hi hi']
  have hl : ∀ e : Fin 64, (⟨u + (64 * (0 : Fin 2).val + e.val), by omega⟩ : Fin 256) = ⟨64 * (j.val / 2) + e.val, key_lt j e⟩ :=
    fun e => Fin.ext (by simp only [Fin.isValue, Fin.val_zero]; omega)
  simp only [hl]

include hk0 hk1 hk2 hv0 hv1 hv2 hc0 hc1 hc2 hs0 hs1 hs2 hgq hgk in
/-- The second pair, with the upper key head of key pair `u`. -/
theorem oddPair (o u : Nat) (h : S128x1024.Slices ![0, o] S128x128) (h' : S128x256.Slices ![0, u] S128x128)
    (h'' : S384x256.Slices ![0, u] S384x128) (hu : u + 128 ≤ 256) (i i' : Fin 16) (j : Fin 8) (hj : o = 128 * j.val)
    (ju : u + 64 = 64 * (j.val / 2)) (hi : i.val = 2 * j.val) (hi' : i'.val = 2 * j.val + 1) (r : Fin 128) (b : Fin 2) (e : Fin 64) :
    pairO (queryPair ![0, o] h x1 x14 x9 x12)
      (stack (keyPart ![0, u] h' x2 x15 x8 x11) (keyPart ![0, u] h' x3 x15 x9 x12) (keyPart ![0, u] h' x4 x15 x10 x13))
      (extractStridedSlice S384x128 ![0, u] (stackV x5 x6 x7) h'') (bandMask (BitVec.ofNat 32 n.val)) (sinkAt x0 i) (sinkAt x0 i')
      (ix2 r (lane b e)) = blockRow n.val x0 x1 kb vb gq gk cs sn r j b e := by
  subst hj
  refine (pairO_apply _ _ _ _ (sinks x0 i i') r (fun k => seen n.val r.val k.val) (bandMask_apply n r) b e).trans ?_
  unfold blockRow
  simp only [queryPair_apply _ h (by omega) x1 x14 x9 x12 r gq _ _ hgq (hc1 r) (hs1 r),
    keys_apply x2 x3 x4 x8 x9 x10 x11 x12 x13 x15 kb gk cs sn hk0 hk1 hk2 hc0 hc1 hc2 hs0 hs1 hs2 hgk u h' hu,
    values_apply x5 x6 x7 vb hv0 hv1 hv2 u h'' hu, sinks_apply x0 i i' j hi hi']
  have hl : ∀ e : Fin 64, (⟨u + (64 * (1 : Fin 2).val + e.val), by omega⟩ : Fin 256) = ⟨64 * (j.val / 2) + e.val, key_lt j e⟩ :=
    fun e => Fin.ext (by simp only [Fin.isValue, Fin.val_one]; omega)
  simp only [hl]

include hk0 hk1 hk2 hv0 hv1 hv2 hc0 hc1 hc2 hs0 hs1 hs2 hgq hgk in
/-- The body's block: each element is a softmax row over the three key blocks. -/
theorem body_apply (r : Fin 128) (j : Fin 8) (b : Fin 2) (e : Fin 64) :
    body (BitVec.ofNat 32 n.val) x0 x1 x2 x3 x4 x5 x6 x7 x8 x9 x10 x11 x12 x13 x14 x15
      (ix2 r ⟨128 * j.val + (64 * b.val + e.val), col_lt j b e⟩) = blockRow n.val x0 x1 kb vb gq gk cs sn r j b e := by
  have ev := evenPair n x0 x1 x2 x3 x4 x5 x6 x7 x8 x9 x10 x11 x12 x13 x14 x15 kb vb gq gk cs sn hk0 hk1 hk2 hv0 hv1 hv2
    hc0 hc1 hc2 hs0 hs1 hs2 hgq hgk
  have od := oddPair n x0 x1 x2 x3 x4 x5 x6 x7 x8 x9 x10 x11 x12 x13 x14 x15 kb vb gq gk cs sn hk0 hk1 hk2 hv0 hv1 hv2
    hc0 hc1 hc2 hs0 hs1 hs2 hgq hgk
  unfold body assemble
  refine (side_apply ![_, _, _, _, _, _, _, _] r (lane b e) j).trans ?_
  match j with
  | 0 => exact ev 0 0 _ _ _ (by omega) 0 1 0 rfl rfl rfl rfl r b e
  | 1 => exact ev 128 0 _ _ _ (by omega) 2 3 1 rfl rfl rfl rfl r b e
  | 2 => exact od 256 0 _ _ _ (by omega) 4 5 2 rfl rfl rfl rfl r b e
  | 3 => exact od 384 0 _ _ _ (by omega) 6 7 3 rfl rfl rfl rfl r b e
  | 4 => exact ev 512 128 _ _ _ (by omega) 8 9 4 rfl rfl rfl rfl r b e
  | 5 => exact ev 640 128 _ _ _ (by omega) 10 11 5 rfl rfl rfl rfl r b e
  | 6 => exact od 768 128 _ _ _ (by omega) 12 13 6 rfl rfl rfl rfl r b e
  | 7 => exact od 896 128 _ _ _ (by omega) 14 15 7 rfl rfl rfl rfl r b e

end

end Cert.Proof.Pairs
-- ==== Proof.Arrays.lean ====
/- The kernel's input blocks in terms of the arguments, and the array that its run leaves: the layer's attention. -/
module

public import proofs.«01_k».proof.Proof.Tables
public import proofs.«01_k».proof.Proof.Pairs

@[expose] public section

set_option maxRecDepth 16384

noncomputable section

namespace Cert.Proof.Arrays

open Cert.KernelIdeal Cert.KernelIdeal.Gen Cert.KernelIdeal.Value Idealize.ShloMosaic Idealize.ShloMosaic.StableHlo
open Idealize.ShloMosaic.TcCoe Idealize.SL.Sem Cert.Proof.Spec Cert.Proof.Layer Cert.Proof.Read Cert.Proof.Pairs Cert.Proof.Body Cert.Proof.Tables

variable (m : (ℓ : Loc nD τ sig) → Buf (Elt Ideal) ℓ) (c : Dev nD)

/-- The packed projections, -/
def X (i : Fin 32768) (j : Fin 1536) : EReal := m (c, Proc.tc.devRef main_arg0) (ix2 i j)
/-- the queries' gains, -/
def GQ (e : Fin 64) : EReal := m (c, Proc.tc.devRef main_arg1) (ix1 e)
/-- the keys' gains -/
def GK (e : Fin 64) : EReal := m (c, Proc.tc.devRef main_arg2) (ix1 e)
/-- and the sinks. -/
def SK (i : Fin 16) : EReal := m (c, Proc.tc.devRef main_arg3) (ix1 i)

/-- Where the blocks of grid point `t` lie: its own rows, -/
theorem at_own : ∀ t : Fin cfg0.N, (grid0.coords t 2).val = t.val % 128 ∧ win0_0.index t (0 : Fin 1) = 0
    ∧ win0_1.index t (0 : Fin 2) = t.val ∧ win0_1.index t (1 : Fin 2) = 0
    ∧ win0_14.index t (0 : Fin 2) = 0 ∧ win0_14.index t (1 : Fin 2) = 0 ∧ win0_15.index t (0 : Fin 2) = 0 ∧ win0_15.index t (1 : Fin 2) = 0
    ∧ win0_16.index t (0 : Fin 2) = t.val ∧ win0_16.index t (1 : Fin 2) = 0 :=
  (by decide +kernel : ∀ t : Fin grid0.N, _)

/-- the three key blocks and the three value blocks around them, -/
theorem at_keys : ∀ t : Fin cfg0.N, win0_2.index t (0 : Fin 2) = 128 * (t.val / 128) + (t.val % 128 - 1) ∧ win0_2.index t (1 : Fin 2) = 4
    ∧ win0_3.index t (0 : Fin 2) = t.val ∧ win0_3.index t (1 : Fin 2) = 4
    ∧ win0_4.index t (0 : Fin 2) = 128 * (t.val / 128) + min 127 (t.val % 128 + 1) ∧ win0_4.index t (1 : Fin 2) = 4
    ∧ win0_5.index t (0 : Fin 2) = 128 * (t.val / 128) + (t.val % 128 - 1) ∧ win0_5.index t (1 : Fin 2) = 5
    ∧ win0_6.index t (0 : Fin 2) = t.val ∧ win0_6.index t (1 : Fin 2) = 5
    ∧ win0_7.index t (0 : Fin 2) = 128 * (t.val / 128) + min 127 (t.val % 128 + 1) ∧ win0_7.index t (1 : Fin 2) = 5 :=
  (by decide +kernel : ∀ t : Fin grid0.N, _)

/-- and the same three blocks of the tables. -/
theorem at_tables : ∀ t : Fin cfg0.N, win0_8.index t (0 : Fin 2) = t.val % 128 - 1 ∧ win0_8.index t (1 : Fin 2) = 0
    ∧ win0_9.index t (0 : Fin 2) = t.val % 128 ∧ win0_9.index t (1 : Fin 2) = 0
    ∧ win0_10.index t (0 : Fin 2) = min 127 (t.val % 128 + 1) ∧ win0_10.index t (1 : Fin 2) = 0
    ∧ win0_11.index t (0 : Fin 2) = t.val % 128 - 1 ∧ win0_11.index t (1 : Fin 2) = 0
    ∧ win0_12.index t (0 : Fin 2) = t.val % 128 ∧ win0_12.index t (1 : Fin 2) = 0
    ∧ win0_13.index t (0 : Fin 2) = min 127 (t.val % 128 + 1) ∧ win0_13.index t (1 : Fin 2) = 0 :=
  (by decide +kernel : ∀ t : Fin grid0.N, _)

theorem lt256 (t : Fin cfg0.N) : t.val < 256 := lt_of_lt_of_le t.isLt (by decide)

/-- The key at place `k` of the three blocks around grid point `t`, at column `l` -/
def keyAt (t : Fin cfg0.N) (k : Fin 384) (l : Fin 256) : EReal :=
  X m c ⟨16384 * (t.val / 128) + kpos (t.val % 128) k.val, by have := kpos_lt (t.val % 128) k.val; have := lt256 t; omega⟩ ⟨1024 + l.val, by omega⟩
/-- and the value. -/
def valAt (t : Fin cfg0.N) (k : Fin 384) (l : Fin 256) : EReal :=
  X m c ⟨16384 * (t.val / 128) + kpos (t.val % 128) k.val, by have := kpos_lt (t.val % 128) k.val; have := lt256 t; omega⟩ ⟨1280 + l.val, by omega⟩

/-- An element of the packed projections as the region finds it. -/
theorem X_read (z : S32768x1536.Idx) (i : Fin 32768) (j : Fin 1536) (hi : (z 0).val = i.val) (hj : (z 1).val = j.val) :
    V m c main_arg0 z = X m c i j := by
  refine (congrFun (V_main_arg0 m c) z).trans ?_
  have : z = ix2 i j := by
    funext a; apply Fin.ext
    match a with
    | ⟨0, _⟩ => exact hi
    | ⟨1, _⟩ => exact hj
  subst this
  rfl

variable (t : Fin cfg0.N)

theorem block0 (q : Fin 16) : iblk m c 0 t (ix1 q) = SK m c q := by
  have f := at_own t
  show V m c main_arg3 (((cfg0.win 0).blk t).view.emb (ix1 q)) = _
  refine (congrFun (V_main_arg3 m c) _).trans (congrArg (m (c, Proc.tc.devRef main_arg3)) ?_)
  funext a; apply Fin.ext
  match a with
  | ⟨0, _⟩ => show win0_0.index t (0 : Fin 1) * 16 + 1 * q.val = q.val; omega

theorem block1 (r : Fin 128) (j : Fin 1024) :
    X0_1 m c t (ix2 r j) = X m c ⟨128 * t.val + r.val, by have := lt256 t; omega⟩ ⟨j.val, by omega⟩ := by
  have f := at_own t
  unfold X0_1 Pipeline.Window.fill
  refine (dif_pos (moved0_1 t (ix2 r j))).trans (X_read m c _ _ _ ?_ ?_)
  · show win0_1.index t (0 : Fin 2) * 128 + 1 * r.val = 128 * t.val + r.val; omega
  · show win0_1.index t (1 : Fin 2) * 1024 + 1 * j.val = j.val; omega

theorem block2 (r : Fin 128) (l : Fin 256) : iblk m c 2 t (ix2 r l) = keyAt m c t ⟨r.val, by omega⟩ l := by
  have f := at_keys t
  refine X_read m c _ _ _ ?_ ?_
  · show win0_2.index t (0 : Fin 2) * 128 + 1 * r.val = 16384 * (t.val / 128) + kpos (t.val % 128) r.val; unfold kpos; omega
  · show win0_2.index t (1 : Fin 2) * 256 + 1 * l.val = 1024 + l.val; omega

theorem block3 (r : Fin 128) (l : Fin 256) : iblk m c 3 t (ix2 r l) = keyAt m c t ⟨128 + r.val, by omega⟩ l := by
  have f := at_keys t
  refine X_read m c _ _ _ ?_ ?_
  · show win0_3.index t (0 : Fin 2) * 128 + 1 * r.val = 16384 * (t.val / 128) + kpos (t.val % 128) (128 + r.val); unfold kpos; omega
  · show win0_3.index t (1 : Fin 2) * 256 + 1 * l.val = 1024 + l.val; omega

theorem block4 (r : Fin 128) (l : Fin 256) : iblk m c 4 t (ix2 r l) = keyAt m c t ⟨256 + r.val, by omega⟩ l := by
  have f := at_keys t
  refine X_read m c _ _ _ ?_ ?_
  · show win0_4.index t (0 : Fin 2) * 128 + 1 * r.val = 16384 * (t.val / 128) + kpos (t.val % 128) (256 + r.val); unfold kpos; omega
  · show win0_4.index t (1 : Fin 2) * 256 + 1 * l.val = 1024 + l.val; omega

theorem block5 (r : Fin 128) (l : Fin 256) : iblk m c 5 t (ix2 r l) = valAt m c t ⟨r.val, by omega⟩ l := by
  have f := at_keys t
  refine X_read m c _ _ _ ?_ ?_
  · show win0_5.index t (0 : Fin 2) * 128 + 1 * r.val = 16384 * (t.val / 128) + kpos (t.val % 128) r.val; unfold kpos; omega
  · show win0_5.index t (1 : Fin 2) * 256 + 1 * l.val = 1280 + l.val; omega

theorem block6 (r : Fin 128) (l : Fin 256) : iblk m c 6 t (ix2 r l) = valAt m c t ⟨128 + r.val, by omega⟩ l := by
  have f := at_keys t
  refine X_read m c _ _ _ ?_ ?_
  · show win0_6.index t (0 : Fin 2) * 128 + 1 * r.val = 16384 * (t.val / 128) + kpos (t.val % 128) (128 + r.val); unfold kpos; omega
  · show win0_6.index t (1 : Fin 2) * 256 + 1 * l.val = 1280 + l.val; omega

theorem block7 (r : Fin 128) (l : Fin 256) : iblk m c 7 t (ix2 r l) = valAt m c t ⟨256 + r.val, by omega⟩ l := by
  have f := at_keys t
  refine X_read m c _ _ _ ?_ ?_
  · show win0_7.index t (0 : Fin 2) * 128 + 1 * r.val = 16384 * (t.val / 128) + kpos (t.val % 128) (256 + r.val); unfold kpos; omega
  · show win0_7.index t (1 : Fin 2) * 256 + 1 * l.val = 1280 + l.val; omega

/-- An element of the cosines' table at a place of the three blocks -/
theorem cos_read (z : S16384x128.Idx) (k : Nat) (b : Fin 2) (e : Fin 64) (h0 : (z 0).val = kpos (t.val % 128) k) (h1 : (z 1).val = (lane b e).val) :
    V m c main_v18 z = cosT (kpos (t.val % 128) k) (half e) := by
  have : z = ix2 ⟨kpos (t.val % 128) k, kpos_lt _ _⟩ (lane b e) := by
    funext a; apply Fin.ext
    match a with
    | ⟨0, _⟩ => exact h0
    | ⟨1, _⟩ => exact h1
  rw [this]
  exact cos_apply m c _ b e

/-- and of the sines'. -/
theorem sin_read (z : S16384x128.Idx) (k : Nat) (b : Fin 2) (e : Fin 64) (h0 : (z 0).val = kpos (t.val % 128) k) (h1 : (z 1).val = (lane b e).val) :
    V m c main_v23 z = if e.val < 32 then -sinT (kpos (t.val % 128) k) (half e) else sinT (kpos (t.val % 128) k) (half e) := by
  have : z = ix2 ⟨kpos (t.val % 128) k, kpos_lt _ _⟩ (lane b e) := by
    funext a; apply Fin.ext
    match a with
    | ⟨0, _⟩ => exact h0
    | ⟨1, _⟩ => exact h1
  rw [this]
  exact sin_apply m c _ b e

theorem block8 (r : Fin 128) (b : Fin 2) (e : Fin 64) : iblk m c 8 t (ix2 r (lane b e)) = cosT (kpos (t.val % 128) r.val) (half e) := by
  have f := at_tables t
  refine cos_read m c t _ _ b e ?_ ?_
  · show win0_8.index t (0 : Fin 2) * 128 + 1 * r.val = _; unfold kpos; omega
  · show win0_8.index t (1 : Fin 2) * 128 + 1 * (lane b e).val = _; omega

theorem block9 (r : Fin 128) (b : Fin 2) (e : Fin 64) : iblk m c 9 t (ix2 r (lane b e)) = cosT (kpos (t.val % 128) (128 + r.val)) (half e) := by
  have f := at_tables t
  refine cos_read m c t _ _ b e ?_ ?_
  · show win0_9.index t (0 : Fin 2) * 128 + 1 * r.val = _; unfold kpos; omega
  · show win0_9.index t (1 : Fin 2) * 128 + 1 * (lane b e).val = _; omega

theorem block10 (r : Fin 128) (b : Fin 2) (e : Fin 64) : iblk m c 10 t (ix2 r (lane b e)) = cosT (kpos (t.val % 128) (256 + r.val)) (half e) := by
  have f := at_tables t
  refine cos_read m c t _ _ b e ?_ ?_
  · show win0_10.index t (0 : Fin 2) * 128 + 1 * r.val = _; unfold kpos; omega
  · show win0_10.index t (1 : Fin 2) * 128 + 1 * (lane b e).val = _; omega

theorem block11 (r : Fin 128) (b : Fin 2) (e : Fin 64) : iblk m c 11 t (ix2 r (lane b e))
    = if e.val < 32 then -sinT (kpos (t.val % 128) r.val) (half e) else sinT (kpos (t.val % 128) r.val) (half e) := by
  have f := at_tables t
  refine sin_read m c t _ _ b e ?_ ?_
  · show win0_11.index t (0 : Fin 2) * 128 + 1 * r.val = _; unfold kpos; omega
  · show win0_11.index t (1 : Fin 2) * 128 + 1 * (lane b e).val = _; omega

theorem block12 (r : Fin 128) (b : Fin 2) (e : Fin 64) : iblk m c 12 t (ix2 r (lane b e))
    = if e.val < 32 then -sinT (kpos (t.val % 128) (128 + r.val)) (half e) else sinT (kpos (t.val % 128) (128 + r.val)) (half e) := by
  have f := at_tables t
  refine sin_read m c t _ _ b e ?_ ?_
  · show win0_12.index t (0 : Fin 2) * 128 + 1 * r.val = _; unfold kpos; omega
  · show win0_12.index t (1 : Fin 2) * 128 + 1 * (lane b e).val = _; omega

theorem block13 (r : Fin 128) (b : Fin 2) (e : Fin 64) : iblk m c 13 t (ix2 r (lane b e))
    = if e.val < 32 then -sinT (kpos (t.val % 128) (256 + r.val)) (half e) else sinT (kpos (t.val % 128) (256 + r.val)) (half e) := by
  have f := at_tables t
  refine sin_read m c t _ _ b e ?_ ?_
  · show win0_13.index t (0 : Fin 2) * 128 + 1 * r.val = _; unfold kpos; omega
  · show win0_13.index t (1 : Fin 2) * 128 + 1 * (lane b e).val = _; omega

theorem block14 (b : Fin 2) (e : Fin 64) : iblk m c 14 t (ix2 0 (lane b e)) = GQ m c e := by
  have f := at_own t
  refine Eq.trans (congrArg (V m c main_v27) ?_) (gq_apply m c b e)
  funext a; apply Fin.ext
  match a with
  | ⟨0, _⟩ => show win0_14.index t (0 : Fin 2) * 1 + 1 * 0 = 0; omega
  | ⟨1, _⟩ => show win0_14.index t (1 : Fin 2) * 128 + 1 * (lane b e).val = (lane b e).val; omega

theorem block15 (b : Fin 2) (e : Fin 64) : iblk m c 15 t (ix2 0 (lane b e)) = GK m c e := by
  have f := at_own t
  refine Eq.trans (congrArg (V m c main_v31) ?_) (gk_apply m c b e)
  funext a; apply Fin.ext
  match a with
  | ⟨0, _⟩ => show win0_15.index t (0 : Fin 2) * 1 + 1 * 0 = 0; omega
  | ⟨1, _⟩ => show win0_15.index t (1 : Fin 2) * 128 + 1 * (lane b e).val = (lane b e).val; omega

/-- What grid point `t` computes, at row `r`, pair of heads `j`, head `b` of the pair and lane `e`. -/
theorem point_apply (r : Fin 128) (j : Fin 8) (b : Fin 2) (e : Fin 64) :
    outsAt0 m c t (ix2 r ⟨128 * j.val + (64 * b.val + e.val), col_lt j b e⟩)
      = blockRow (t.val % 128) (iblk m c 0 t) (X0_1 m c t) (keyAt m c t) (valAt m c t) (GQ m c) (GK m c)
          (fun k => cosT (kpos (t.val % 128) k.val)) (fun k => sinT (kpos (t.val % 128) k.val)) r j b e := by
  rw [outsAt_eq, (at_own t).1]
  exact body_apply ⟨t.val % 128, by omega⟩ (iblk m c 0 t) (X0_1 m c t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t)
    (iblk m c 14 t) (iblk m c 15 t) (keyAt m c t) (valAt m c t) (GQ m c) (GK m c) (fun k => cosT (kpos (t.val % 128) k.val))
    (fun k => sinT (kpos (t.val % 128) k.val)) (block2 m c t) (block3 m c t) (block4 m c t) (block5 m c t) (block6 m c t) (block7 m c t)
    (block8 m c t) (block9 m c t) (block10 m c t) (block11 m c t) (block12 m c t) (block13 m c t) (block14 m c t) (block15 m c t) r j b e

/-- It is the layer's attention at that element. -/
theorem point_layer (r : Fin 128) (j : Fin 8) (b : Fin 2) (e : Fin 64) :
    blockRow (t.val % 128) (iblk m c 0 t) (X0_1 m c t) (keyAt m c t) (valAt m c t) (GQ m c) (GK m c)
          (fun k => cosT (kpos (t.val % 128) k.val)) (fun k => sinT (kpos (t.val % 128) k.val)) r j b e
      = layer (X m c) (GQ m c) (GK m c) (SK m c) ⟨t.val / 128, by have := lt256 t; omega⟩ ⟨t.val % 128, by omega⟩ r
          ⟨j.val / 2, by omega⟩ ⟨2 * (j.val % 2) + b.val, by omega⟩ e := by
  have hp : kpos (t.val % 128) (128 + r.val) = 128 * (t.val % 128) + r.val := by unfold kpos; omega
  have hs : iblk m c 0 t (ix1 ⟨2 * j.val + b.val, by omega⟩) = SK m c ⟨4 * (j.val / 2) + (2 * (j.val % 2) + b.val), by omega⟩ :=
    (block0 m c t _).trans (congrArg (SK m c) (Fin.ext (by show 2 * j.val + b.val = 4 * (j.val / 2) + (2 * (j.val % 2) + b.val); omega)))
  have hq : (fun e : Fin 64 => (X0_1 m c t (ix2 r ⟨128 * j.val + (64 * b.val + e.val), by omega⟩) : EReal))
      = fun e => X m c ⟨16384 * (t.val / 128) + (128 * (t.val % 128) + r.val), by have := lt256 t; omega⟩
          ⟨64 * (4 * (j.val / 2) + (2 * (j.val % 2) + b.val)) + e.val, by omega⟩ := funext fun e =>
    (block1 m c t r _).trans (congrArg₂ (X m c) (Fin.ext (by show 128 * t.val + r.val = 16384 * (t.val / 128) + (128 * (t.val % 128) + r.val); omega))
      (Fin.ext (by show 128 * j.val + (64 * b.val + e.val) = 64 * (4 * (j.val / 2) + (2 * (j.val % 2) + b.val)) + e.val; omega)))
  unfold blockRow layer
  rw [hs, hq]
  dsimp only
  rw [hp]
  rfl

/-- The array that the run leaves. -/
theorem final_apply (i : Fin 32768) (j : Fin 1024) :
    (dats m 0 c).arrAt 16 cfg0.N (ix2 i j) = out (X m c) (GQ m c) (GK m c) (SK m c) i j := by
  have hN : cfg0.N = 256 := by decide
  let t : Fin cfg0.N := ⟨i.val / 128, by omega⟩
  let r : Fin 128 := ⟨i.val % 128, by omega⟩
  let jj : Fin 8 := ⟨j.val / 128, by omega⟩
  let b : Fin 2 := ⟨j.val / 64 % 2, by omega⟩
  let e : Fin 64 := ⟨j.val % 64, by omega⟩
  have f := at_own t
  have w := congrFun (Cert.KernelIdeal.Value.blocks16 m c t (flush0_16 t)) (ix2 r ⟨128 * jj.val + (64 * b.val + e.val), col_lt jj b e⟩)
  rw [Cert.KernelIdeal.Value.flushed16] at w
  have w' : (dats m 0 c).arrAt 16 cfg0.N (((cfg0.win 16).blk t).view.emb (ix2 r ⟨128 * jj.val + (64 * b.val + e.val), col_lt jj b e⟩))
      = outsAt0 m c t (ix2 r ⟨128 * jj.val + (64 * b.val + e.val), col_lt jj b e⟩) := w
  have em : ((cfg0.win 16).blk t).view.emb (ix2 r ⟨128 * jj.val + (64 * b.val + e.val), col_lt jj b e⟩) = ix2 i j := by
    funext a; apply Fin.ext
    match a with
    | ⟨0, _⟩ =>
      show win0_16.index t (0 : Fin 2) * 128 + 1 * (i.val % 128) = i.val
      have : win0_16.index t (0 : Fin 2) = i.val / 128 := f.2.2.2.2.2.2.2.2.1
      omega
    | ⟨1, _⟩ =>
      show win0_16.index t (1 : Fin 2) * 1024 + 1 * (128 * (j.val / 128) + (64 * (j.val / 64 % 2) + j.val % 64)) = j.val
      omega
  rw [em] at w'
  rw [w', point_apply, point_layer]
  unfold out
  have h1 : (⟨t.val / 128, by omega⟩ : Fin 2) = ⟨i.val / 16384, by omega⟩ := Fin.ext (by show i.val / 128 / 128 = i.val / 16384; omega)
  have h2 : (⟨jj.val / 2, by omega⟩ : Fin 4) = ⟨j.val / 256, by omega⟩ := Fin.ext (by show j.val / 128 / 2 = j.val / 256; omega)
  have h3 : (⟨2 * (jj.val % 2) + b.val, by omega⟩ : Fin 4) = ⟨j.val / 64 % 4, by omega⟩ :=
    Fin.ext (by show 2 * (j.val / 128 % 2) + j.val / 64 % 2 = j.val / 64 % 4; omega)
  rw [h1, h2, h3]

end Cert.Proof.Arrays
-- ==== Proof.Refer.lean ====
/- The reference's result read at an index: the layer's attention at that element. -/
module

public import proofs.«01_k».proof.Proof.Layer
public import proofs.«01_k».proof.Proof.Gen.ReferenceIdeal.Run
public import Idealize.ShloMosaic.Lib.Pointwise.IndexVar
public import Idealize.ShloMosaic.Lib.StableHlo.ReadAt

@[expose] public section

set_option maxRecDepth 16384

noncomputable section

namespace Cert.Proof.Refer

open Cert.ReferenceIdeal Cert.ReferenceIdeal.Gen Cert.ReferenceIdeal.Value Idealize.ShloMosaic Idealize.ShloMosaic.StableHlo
open Idealize.ShloMosaic.TcCoe Idealize.SL.Sem Cert.Proof.Spec Cert.Proof.Layer

variable (L : Valuation τ sig (Elt Ideal))

/-- The packed projections, -/
def X (i : Fin 32768) (j : Fin 1536) : EReal := L (Proc.tc.devRef main_arg0) (ix2 i j)
/-- the queries' gains, -/
def GQ (e : Fin 64) : EReal := L (Proc.tc.devRef main_arg1) (ix1 e)
/-- the keys' gains -/
def GK (e : Fin 64) : EReal := L (Proc.tc.devRef main_arg2) (ix1 e)
/-- and the sinks. -/
def SK (i : Fin 16) : EReal := L (Proc.tc.devRef main_arg3) (ix1 i)

theorem X_congr {i i' : Fin 32768} {j j' : Fin 1536} (hi : i.val = i'.val) (hj : j.val = j'.val) : X L i j = X L i' j' := by
  rw [Fin.ext hi, Fin.ext hj]

/-- The queries' cosines -/
theorem cosQ (p : Fin 16384) (d : Fin 32) : res_main_v32 L (ix4 0 p 0 d) = cosT p.val d := by
  unfold res_main_v32 res_main_v30 res_main_v4
  clean_types
  pointwise
  rfl

/-- and sines. -/
theorem sinQ (p : Fin 16384) (d : Fin 32) : res_main_v34 L (ix4 0 p 0 d) = sinT p.val d := by
  unfold res_main_v34 res_main_v30 res_main_v4
  clean_types
  pointwise
  rfl

/-- The keys' cosines -/
theorem cosK (p : Fin 16384) (d : Fin 32) : res_main_v75 L (ix4 0 p 0 d) = cosT p.val d := by
  unfold res_main_v75 res_main_v73 res_main_v4
  clean_types
  pointwise
  rfl

/-- and sines. -/
theorem sinK (p : Fin 16384) (d : Fin 32) : res_main_v77 L (ix4 0 p 0 d) = sinT p.val d := by
  unfold res_main_v77 res_main_v73 res_main_v4
  clean_types
  pointwise
  rfl

/-- A query head's row. -/
theorem query (b : Fin 2) (p : Fin 16384) (h : Fin 16) (e : Fin 64) :
    res_main_v5 L (ix4 b p h e) = X L ⟨16384 * b.val + p.val, by omega⟩ ⟨64 * h.val + e.val, by omega⟩ := by
  unfold res_main_v5 res_main_v0
  clean_types
  pointwise
  exact X_congr L (by show b.val * 16384 + p.val = 16384 * b.val + p.val; omega) (by show h.val * 64 + e.val = 64 * h.val + e.val; omega)

/-- A key head's row. -/
theorem key (b : Fin 2) (p : Fin 16384) (h : Fin 4) (e : Fin 64) :
    res_main_v48 L (ix4 b p h e) = X L ⟨16384 * b.val + p.val, by omega⟩ ⟨1024 + (64 * h.val + e.val), by omega⟩ := by
  unfold res_main_v48 res_main_v0
  clean_types
  pointwise
  exact X_congr L (by show b.val * 16384 + p.val = 16384 * b.val + p.val; omega)
    (by show 1024 + (h.val * 64 + e.val) = 1024 + (64 * h.val + e.val); omega)

/-- A query head's norm. -/
theorem normQ (b : Fin 2) (p : Fin 16384) (h : Fin 16) (e : Fin 64) :
    res_main_v18 L (ix4 b p h e)
      = nrm (fun e => X L ⟨16384 * b.val + p.val, by omega⟩ ⟨64 * h.val + e.val, by omega⟩) (GQ L) e := by
  unfold res_main_v18
  clean_types
  pointwise
  simp only [query]
  rfl

/-- A key head's norm. -/
theorem normK (b : Fin 2) (p : Fin 16384) (h : Fin 4) (e : Fin 64) :
    res_main_v61 L (ix4 b p h e)
      = nrm (fun e => X L ⟨16384 * b.val + p.val, by omega⟩ ⟨1024 + (64 * h.val + e.val), by omega⟩) (GK L) e := by
  unfold res_main_v61
  clean_types
  pointwise
  simp only [key]
  rfl

/-- The halves of a query head's norm -/
theorem loQ (b : Fin 2) (p : Fin 16384) (h : Fin 16) (d : Fin 32) :
    res_main_v35 L (ix4 b p h d)
      = nrm (fun e => X L ⟨16384 * b.val + p.val, by omega⟩ ⟨64 * h.val + e.val, by omega⟩) (GQ L) (lo d) := by
  unfold res_main_v35
  clean_types
  pointwise
  exact normQ L b p h (lo d)

theorem hiQ (b : Fin 2) (p : Fin 16384) (h : Fin 16) (d : Fin 32) :
    res_main_v36 L (ix4 b p h d)
      = nrm (fun e => X L ⟨16384 * b.val + p.val, by omega⟩ ⟨64 * h.val + e.val, by omega⟩) (GQ L) (hi d) := by
  unfold res_main_v36
  clean_types
  pointwise
  exact normQ L b p h (hi d)

/-- and of a key head's. -/
theorem loK (b : Fin 2) (p : Fin 16384) (h : Fin 4) (d : Fin 32) :
    res_main_v78 L (ix4 b p h d)
      = nrm (fun e => X L ⟨16384 * b.val + p.val, by omega⟩ ⟨1024 + (64 * h.val + e.val), by omega⟩) (GK L) (lo d) := by
  unfold res_main_v78
  clean_types
  pointwise
  exact normK L b p h (lo d)

theorem hiK (b : Fin 2) (p : Fin 16384) (h : Fin 4) (d : Fin 32) :
    res_main_v79 L (ix4 b p h d)
      = nrm (fun e => X L ⟨16384 * b.val + p.val, by omega⟩ ⟨1024 + (64 * h.val + e.val), by omega⟩) (GK L) (hi d) := by
  unfold res_main_v79
  clean_types
  pointwise
  exact normK L b p h (hi d)

/-- The rotated key at position `p`, found in the padded blocks one block further on. -/
theorem ropeK (b : Fin 2) (nn : Fin 130) (r : Fin 128) (h : Fin 4) (e : Fin 64) (p : Fin 16384)
    (hp : nn.val * 128 + r.val = p.val + 128) :
    res_main_v97 L (ix5 b nn r h e)
      = rot (nrm (fun e => X L ⟨16384 * b.val + p.val, by omega⟩ ⟨1024 + (64 * h.val + e.val), by omega⟩) (GK L))
          (cosT p.val) (sinT p.val) e := by
  unfold res_main_v97
  clean_types
  pointwise
  have hh : 128 ≤ nn.val * 128 + r.val ∧ nn.val * 128 + r.val - 128 < 16384 := by omega
  have hp' : nn.val * 128 + r.val - 128 = p.val := by omega
  rw [dif_pos hh]
  have hq : ∀ h, (⟨nn.val * 128 + r.val - 128, h⟩ : Fin 16384) = p := fun _ => Fin.ext hp'
  simp only [hq]
  by_cases he : e.val < 32
  · have hd : (⟨e.val, he⟩ : Fin 32) = half e := Fin.ext (Nat.mod_eq_of_lt he).symm
    rw [dif_pos he, hd, loK, hiK, cosK, sinK]
    exact (if_pos he).symm
  · have hd : ∀ h, (⟨e.val - 32, h⟩ : Fin 32) = half e := fun _ => Fin.ext (by show e.val - 32 = e.val % 32; omega)
    rw [dif_neg he, hd, loK, hiK, cosK, sinK]
    exact (if_neg he).symm

/-- The value at position `p` likewise. -/
theorem valueK (b : Fin 2) (nn : Fin 130) (r : Fin 128) (h : Fin 4) (e : Fin 64) (p : Fin 16384)
    (hp : nn.val * 128 + r.val = p.val + 128) :
    res_main_v99 L (ix5 b nn r h e) = X L ⟨16384 * b.val + p.val, by omega⟩ ⟨1280 + (64 * h.val + e.val), by omega⟩ := by
  unfold res_main_v99 res_main_v0
  clean_types
  pointwise
  have hh : 128 ≤ nn.val * 128 + r.val ∧ nn.val * 128 + r.val - 128 < 16384 := by omega
  rw [dif_pos hh]
  exact X_congr L (by show b.val * 16384 + (nn.val * 128 + r.val - 128) = 16384 * b.val + p.val; omega)
    (by show 1280 + (h.val * 64 + e.val) = 1280 + (64 * h.val + e.val); omega)

/-- Place `k` of the three blocks after block `n`'s predecessor, whichever of the three it lies in. -/
theorem three {α : Type} (f : Fin 130 → Fin 128 → α) (n : Fin 128) (k : Fin 384) (a : α)
    (h : ∀ nn r, nn.val * 128 + r.val = 128 * n.val + k.val → f nn r = a) :
    (if h1 : k.val < 128 then f ⟨n.val, by omega⟩ ⟨k.val, h1⟩
      else if h2 : k.val - 128 < 128 then f ⟨1 + n.val, by omega⟩ ⟨k.val - 128, h2⟩
      else f ⟨2 + n.val, by omega⟩ ⟨k.val - 128 - 128, by omega⟩) = a := by
  by_cases h1 : k.val < 128
  · rw [dif_pos h1]; exact h _ _ (by show n.val * 128 + k.val = _; omega)
  · rw [dif_neg h1]
    by_cases h2 : k.val - 128 < 128
    · rw [dif_pos h2]; exact h _ _ (by show (1 + n.val) * 128 + (k.val - 128) = _; omega)
    · rw [dif_neg h2]; exact h _ _ (by show (2 + n.val) * 128 + (k.val - 128 - 128) = _; omega)

/-- The scores' mask: the distance's part, -/
theorem near_word : ∀ d : Fin 640,
    IntOp.cmpi .sle (IntOp.absi (BitVec.ofNat 32 d.val - 384#32)) 128#32 = BitVec.ofBool (decide (256 ≤ d.val ∧ d.val ≤ 512)) := by
  decide +kernel

/-- and the two ends'. -/
theorem from_word : ∀ s : Fin 16768,
    IntOp.cmpi .sge (BitVec.ofNat 32 s.val - 128#32) 0#32 = BitVec.ofBool (decide (128 ≤ s.val)) := by
  decide +kernel

theorem upto_word : ∀ s : Fin 16768,
    IntOp.cmpi .slt (BitVec.ofNat 32 s.val - 128#32) 16384#32 = BitVec.ofBool (decide (s.val < 16512)) := by
  decide +kernel

/-- The conjunction of two one-bit words. -/
theorem andi_ofBool (a b : Bool) : IntOp.andi (BitVec.ofBool a) (BitVec.ofBool b) = BitVec.ofBool (a && b) := by
  cases a <;> cases b <;> rfl

/-- The block's number as a word, -/
theorem block_word (n : Fin 128) : res_main_v109 L (ix3 n 0 0) = BitVec.ofNat 32 n.val := by
  unfold res_main_v109
  clean_types
  pointwise

/-- and a key's position as a word. -/
theorem place_word (n : Fin 128) (k : Fin 384) :
    res_main_v125 L (ix3 n 0 k) = BitVec.ofNat 32 (128 * n.val + k.val) - 128#32 := by
  unfold res_main_v125 res_main_v109
  clean_types
  pointwise
  simp only [IntOp.addi, IntOp.muli, IntOp.subi]
  bv_omega

/-- The difference of two positions. -/
theorem diff_word (n r : Fin 128) (k : Fin 384) :
    IntOp.subi (IntOp.addi (IntOp.muli (BitVec.ofNat 32 n.val) 128#32) (BitVec.ofNat 32 r.val))
      (BitVec.ofNat 32 (128 * n.val + k.val) - 128#32) = BitVec.ofNat 32 (r.val + 512 - k.val) - 384#32 := by
  simp only [IntOp.addi, IntOp.muli, IntOp.subi]
  have := n.isLt; have := r.isLt; have := k.isLt
  bv_omega

/-- The mask's word holds `seen`. -/
theorem mask_word (n r : Fin 128) (k : Fin 384) :
    IntOp.andi (IntOp.andi
        (IntOp.cmpi .sle (IntOp.absi (IntOp.subi (IntOp.addi (IntOp.muli (res_main_v109 L (ix3 n 0 0)) 128#32) (BitVec.ofNat 32 r.val))
          (res_main_v125 L (ix3 n 0 k)))) 128#32)
        (IntOp.cmpi .sge (res_main_v125 L (ix3 n 0 k)) 0#32))
      (IntOp.cmpi .slt (res_main_v125 L (ix3 n 0 k)) 16384#32) = BitVec.ofBool (decide (seen n.val r.val k.val)) := by
  rw [block_word, place_word, diff_word, near_word ⟨r.val + 512 - k.val, by omega⟩, from_word ⟨128 * n.val + k.val, by omega⟩,
    upto_word ⟨128 * n.val + k.val, by omega⟩, andi_ofBool, andi_ofBool]
  refine congrArg BitVec.ofBool ?_
  rw [← Bool.decide_and, ← Bool.decide_and]
  exact decide_eq_decide.mpr (by unfold seen; dsimp only; omega)

/-- A product of rows, half by half. -/
theorem dot_halves (q k : Fin 64 → EReal) : ∑ e, q e * k e = ∑ d : Fin 32, k (lo d) * q (lo d) + ∑ d : Fin 32, k (hi d) * q (hi d) := by
  rw [Fin.sum_univ_two_halves 32 32 rfl]
  exact congrArg₂ (· + ·) (Finset.sum_congr rfl fun d _ => mul_comm _ _) (Finset.sum_congr rfl fun d _ => mul_comm _ _)

theorem rot_lo (y : Fin 64 → EReal) (cs sn : Fin 32 → EReal) (d : Fin 32) : rot y cs sn (lo d) = y (lo d) * cs d - y (hi d) * sn d := by
  have hd : half (lo d) = d := Fin.ext (by simp only [half, lo]; omega)
  rw [rot, if_pos (by simp only [lo]; omega), hd]

theorem rot_hi (y : Fin 64 → EReal) (cs sn : Fin 32 → EReal) (d : Fin 32) : rot y cs sn (hi d) = y (hi d) * cs d + y (lo d) * sn d := by
  have hd : half (hi d) = d := Fin.ext (by simp only [half, hi]; omega)
  rw [rot, if_neg (by simp only [hi]; omega), hd]

end Cert.Proof.Refer
-- ==== Proof.Scores.lean ====
/- The reference's masked scores, read at an index. -/
module

public import proofs.«01_k».proof.Proof.Refer
public import Idealize.ShloMosaic.Lib.Pointwise.IndexVar
public import Idealize.ShloMosaic.Lib.StableHlo.ReadAt

@[expose] public section

set_option maxRecDepth 16384

noncomputable section

namespace Cert.Proof.Refer

open Cert.ReferenceIdeal Cert.ReferenceIdeal.Gen Cert.ReferenceIdeal.Value Idealize.ShloMosaic Idealize.ShloMosaic.StableHlo
open Idealize.ShloMosaic.TcCoe Idealize.SL.Sem Cert.Proof.Spec Cert.Proof.Layer

variable (L : Valuation τ sig (Elt Ideal))

/-- A query head's rotated row. -/
def qrow (b : Fin 2) (n r : Fin 128) (g h : Fin 4) : Fin 64 → EReal :=
  rot (nrm (fun e => X L ⟨16384 * b.val + (128 * n.val + r.val), by omega⟩ ⟨64 * (4 * g.val + h.val) + e.val, by omega⟩) (GQ L))
    (cosT (128 * n.val + r.val)) (sinT (128 * n.val + r.val))

/-- A key head's rotated row. -/
def krow (b : Fin 2) (n : Fin 128) (g : Fin 4) (k : Fin 384) : Fin 64 → EReal :=
  rot (nrm (fun e => X L ⟨16384 * b.val + kpos n.val k.val, by have := kpos_lt n.val k.val; omega⟩ ⟨1024 + (64 * g.val + e.val), by omega⟩) (GK L))
    (cosT (kpos n.val k.val)) (sinT (kpos n.val k.val))

/-- The choice by a word that holds a condition. -/
theorem select_of (w : BitVec 1) (c : Prop) [Decidable c] (a b : EReal) (hw : w = BitVec.ofBool (decide c)) (u : EReal)
    (ht : c → a = u) (hf : ¬ c → b = u) : Scalar.select w a b = u := by
  subst hw
  by_cases h : c
  · rw [decide_eq_true h]; exact ht h
  · rw [decide_eq_false h]; exact hf h

/-- A key that is seen is read at its own position. -/
theorem seenK (b : Fin 2) (n : Fin 128) (g : Fin 4) (r : Fin 128) (k : Fin 384) (hs : seen n.val r.val k.val) (e : Fin 64)
    (nn : Fin 130) (r' : Fin 128) (hn : nn.val * 128 + r'.val = 128 * n.val + k.val) :
    res_main_v97 L (ix5 b nn r' g e) = krow L b n g k e := by
  have hp := kpos_seen k.isLt hs
  unfold seen at hs
  exact ropeK L b nn r' g e ⟨kpos n.val k.val, kpos_lt _ _⟩ (by show _ = kpos n.val k.val + 128; omega)

/-- The query's rotated row, lower half -/
theorem lowQ (b : Fin 2) (n r : Fin 128) (g h : Fin 4) (d : Fin 32) (p : Fin 16384) (j : Fin 16) (hp : p.val = 128 * n.val + r.val)
    (hj : j.val = 4 * g.val + h.val) :
    (fun a b c d => a * b - c * d : EReal → EReal → EReal → EReal → EReal) (res_main_v35 L (ix4 b p j d)) (res_main_v32 L (ix4 0 p 0 d))
      (res_main_v36 L (ix4 b p j d)) (res_main_v34 L (ix4 0 p 0 d)) = qrow L b n r g h (lo d) := by
  have hp' : p = ⟨128 * n.val + r.val, by omega⟩ := Fin.ext hp
  have hj' : j = ⟨4 * g.val + h.val, by omega⟩ := Fin.ext hj
  rw [hp', hj', loQ, hiQ, cosQ, sinQ]
  exact (rot_lo _ _ _ d).symm

/-- and upper half. -/
theorem highQ (b : Fin 2) (n r : Fin 128) (g h : Fin 4) (d : Fin 32) (p : Fin 16384) (j : Fin 16) (hp : p.val = 128 * n.val + r.val)
    (hj : j.val = 4 * g.val + h.val) :
    (fun a b c d => a * b + c * d : EReal → EReal → EReal → EReal → EReal) (res_main_v36 L (ix4 b p j d)) (res_main_v32 L (ix4 0 p 0 d))
      (res_main_v35 L (ix4 b p j d)) (res_main_v34 L (ix4 0 p 0 d)) = qrow L b n r g h (hi d) := by
  have hp' : p = ⟨128 * n.val + r.val, by omega⟩ := Fin.ext hp
  have hj' : j = ⟨4 * g.val + h.val, by omega⟩ := Fin.ext hj
  rw [hp', hj', loQ, hiQ, cosQ, sinQ]
  exact (rot_hi _ _ _ d).symm

/-- The masked scores. -/
theorem scores (b : Fin 2) (n : Fin 128) (g h : Fin 4) (r : Fin 128) (k : Fin 384) :
    res_main_v145 L (ix6 b n g h r k) = score (seen n.val r.val k.val) (qrow L b n r g h) (krow L b n g k) := by
  unfold res_main_v145
  clean_types
  generalize hA : res_main_v109 L = A
  generalize hB : res_main_v125 L = B
  generalize hC : res_main_v97 L = C
  generalize hD : res_main_v35 L = D
  generalize hE : res_main_v32 L = E
  pointwise
  refine select_of _ (seen n.val r.val k.val) _ _ ?_ _ (fun hs => ?_) fun hs => ?_
  · rw [← hA, ← hB]
    exact mask_word L n r k
  · subst hC hD hE
    have hr : n.val * 128 + r.val < 16384 := by omega
    refine Eq.trans ?_ ((if_pos hs).trans (congrArg (· * Ideal.ofBits .f32 0x3E000000#32)
      (dot_halves (qrow L b n r g h) (krow L b n g k)))).symm
    refine congrArg₂ (· * ·) (congrArg₂ (· + ·) (Finset.sum_congr rfl fun d _ => congrArg₂ (· * ·) ?_ ?_)
      (Finset.sum_congr rfl fun d _ => congrArg₂ (· * ·) ?_ ?_)) rfl
    · exact three (fun nn r => res_main_v97 L (ix5 b nn r g (lo d))) n k _ (seenK L b n g r k hs (lo d))
    · refine (dif_pos hr).trans ?_
      exact lowQ L b n r g h d _ _ (by show n.val * 128 + r.val = _; omega) (by show g.val * 4 + h.val = _; omega)
    · exact three (fun nn r => res_main_v97 L (ix5 b nn r g (hi d))) n k _ (seenK L b n g r k hs (hi d))
    · refine (dif_pos hr).trans ?_
      exact highQ L b n r g h d _ _ (by show n.val * 128 + r.val = _; omega) (by show g.val * 4 + h.val = _; omega)
  · refine Eq.trans ?_ (if_neg hs).symm
    simp [constant, Ideal.ofBits, Ideal.ieee]

end Cert.Proof.Refer
-- ==== Proof.Result.lean ====
/- The reference's row maxima, its weights, and its result, read at an index. -/
module

public import proofs.«01_k».proof.Proof.Scores
public import Idealize.ShloMosaic.Lib.Pointwise.IndexVar
public import Idealize.ShloMosaic.Lib.StableHlo.ReadAt

@[expose] public section

set_option maxRecDepth 16384

noncomputable section

namespace Cert.Proof.Refer

open Cert.ReferenceIdeal Cert.ReferenceIdeal.Gen Cert.ReferenceIdeal.Value Idealize.ShloMosaic Idealize.ShloMosaic.StableHlo
open Idealize.ShloMosaic.TcCoe Idealize.SL.Sem Cert.Proof.Spec Cert.Proof.Layer

variable (L : Valuation τ sig (Elt Ideal))

/-- A query's scores against the three key blocks. -/
def srow (b : Fin 2) (n : Fin 128) (g h : Fin 4) (r : Fin 128) (k : Fin 384) : EReal :=
  score (seen n.val r.val k.val) (qrow L b n r g h) (krow L b n g k)

/-- The last axis, of 384 places. -/
theorem last_axis : Shape.Reduces S2x128x4x4x128x384 [5] S2x128x4x4x128 := by decide

/-- An index of the scores, from its row and its place. -/
theorem last_lift (b : Fin 2) (n : Fin 128) (g h : Fin 4) (r : Fin 128) (k : Fin 384) :
    last_axis.lift (ix5 b n g h r) k = ix6 b n g h r k := by
  funext a
  apply Fin.ext
  match a with
  | ⟨0, _⟩ => rfl
  | ⟨1, _⟩ => rfl
  | ⟨2, _⟩ => rfl
  | ⟨3, _⟩ => rfl
  | ⟨4, _⟩ => rfl
  | ⟨5, _⟩ => rfl

/-- The greatest score of a row. -/
theorem fold_apply (b : Fin 2) (n : Fin 128) (g h : Fin 4) (r : Fin 128) :
    Host.reduce FloatOps.maximumf (res_main_v145 L) (constant S_ .f32 0xFF800000#32)
        reducesTo_S2x128x4x4x128x384_S2x128x4x4x128_d5 h_S_ (ix5 b n g h r)
      = Finset.fold max (Ideal.ofBits .f32 0xFF800000#32) (srow L b n g h r) Finset.univ := by
  refine (Host.reduce_eq_fold_single (FloatOps.maximumf (F := Ideal) (φ := .f32)) _ _ _ last_axis _ _).trans ?_
  refine congrArg (fun f => Finset.fold max (Ideal.ofBits .f32 0xFF800000#32) f Finset.univ) (funext fun k => ?_)
  exact (congrArg (res_main_v145 L) (last_lift b n g h r k)).trans (scores L b n g h r k)

/-- The larger of a row's own number and a head's, -/
theorem larger_apply (R : FVec Ideal S2x128x4x4x128 .f32) (W : FVec Ideal S1x1x4x4x1x1 .f32)
    (b : Fin 2) (n : Fin 128) (g h : Fin 4) (r : Fin 128) :
    maximumf (broadcastInDim S2x128x4x4x128x1 ![0, 1, 2, 3, 4] bcast_S2x128x4x4x128_S2x128x4x4x128x1_0_1_2_3_4 R)
        (broadcastInDim S2x128x4x4x128x1 ![0, 1, 2, 3, 4, 5] bcast_S1x1x4x4x1x1_S2x128x4x4x128x1_0_1_2_3_4_5 W) (ix6 b n g h r 0)
      = (max (R (ix5 b n g h r) : EReal) (W (ix6 0 0 g h 0 0)) : EReal) := by
  pointwise

/-- a head's sink, -/
theorem sinkV (g h : Fin 4) : res_main_v148 L (ix6 0 0 g h 0 0) = SK L ⟨4 * g.val + h.val, by omega⟩ := by
  unfold res_main_v148
  clean_types
  pointwise
  exact congrArg (fun q => L (Proc.tc.devRef main_arg3) (ix1 q)) (Fin.ext (by show g.val * 4 + h.val = 4 * g.val + h.val; omega))

/-- and the row's maximum. -/
theorem tops (b : Fin 2) (n : Fin 128) (g h : Fin 4) (r : Fin 128) :
    res_main_v150 L (ix6 b n g h r 0) = top (srow L b n g h r) (SK L ⟨4 * g.val + h.val, by omega⟩) := by
  unfold res_main_v150
  refine (larger_apply _ _ b n g h r).trans ?_
  rw [fold_apply, sinkV]
  rfl

/-- A weight. -/
theorem weights (b : Fin 2) (n : Fin 128) (g h : Fin 4) (r : Fin 128) (k : Fin 384) :
    res_main_v153 L (ix6 b n g h r k)
      = Ideal.exp (srow L b n g h r k - top (srow L b n g h r) (SK L ⟨4 * g.val + h.val, by omega⟩)) := by
  have t := tops L b n g h r
  have s := scores L b n g h r k
  revert t s
  unfold res_main_v153
  clean_types
  generalize res_main_v145 L = A
  generalize res_main_v150 L = B
  intro t s
  pointwise
  exact congrArg Ideal.exp (congrArg₂ (fun a b : EReal => a - b) s t)

/-- The weights' sum. -/
theorem weight_sum (b : Fin 2) (n : Fin 128) (g h : Fin 4) (r : Fin 128) :
    Host.reduceAdd (F := Ideal) (res_main_v153 L) (constant S_ .f32 0x00000000#32) reducesTo_S2x128x4x4x128x384_S2x128x4x4x128_d5 h_S_ (ix5 b n g h r)
      = ∑ k, Ideal.exp (srow L b n g h r k - top (srow L b n g h r) (SK L ⟨4 * g.val + h.val, by omega⟩)) := by
  refine (Ideal.hostReduceAdd_single _ last_axis _ _ _).trans ?_
  have z : constant (F := Ideal) S_ .f32 0x00000000#32 (Shape.Idx.first h_S_) = (0 : EReal) := by
    simp [constant, Ideal.ofBits, Ideal.ieee]
  refine (congrArg₂ (fun a b : EReal => a + b) z (Finset.sum_congr rfl fun k _ => ?_)).trans (zero_add _)
  exact (congrArg (res_main_v153 L) (last_lift b n g h r k)).trans (weights L b n g h r k)

/-- The divisor. -/
theorem divisor (b : Fin 2) (n : Fin 128) (g h : Fin 4) (r : Fin 128) :
    res_main_v159 L (ix6 b n g h r 0)
      = ∑ k, Ideal.exp (srow L b n g h r k - top (srow L b n g h r) (SK L ⟨4 * g.val + h.val, by omega⟩))
        + Ideal.exp (SK L ⟨4 * g.val + h.val, by omega⟩ - top (srow L b n g h r) (SK L ⟨4 * g.val + h.val, by omega⟩)) := by
  have t := tops L b n g h r
  have w := weight_sum L b n g h r
  revert t w
  unfold res_main_v159 res_main_v148
  clean_types
  generalize Host.reduceAdd (F := Ideal) (res_main_v153 L) (constant S_ .f32 0x00000000#32)
    reducesTo_S2x128x4x4x128x384_S2x128x4x4x128_d5 h_S_ = A
  generalize res_main_v150 L = B
  intro t w
  pointwise
  refine congrArg₂ (fun a b : EReal => a + b) w (congrArg Ideal.exp (congrArg₂ (fun a b : EReal => a - b) ?_ t))
  exact congrArg (fun q => L (Proc.tc.devRef main_arg3) (ix1 q)) (Fin.ext (by show g.val * 4 + h.val = 4 * g.val + h.val; omega))

/-- Only a key that is seen has a score. -/
theorem seen_of_score (b : Fin 2) (n : Fin 128) (g h : Fin 4) (r : Fin 128) (k : Fin 384) (hk : srow L b n g h r k ≠ ⊥) :
    seen n.val r.val k.val := by
  by_contra hs
  exact hk (if_neg hs)

/-- The weights, the values and the divisor as numbers. -/
def weightOf (b : Fin 2) (n : Fin 128) (g h : Fin 4) (r : Fin 128) (k : Fin 384) : EReal := res_main_v153 L (ix6 b n g h r k)
def valueOf (b : Fin 2) (g : Fin 4) (e : Fin 64) (nn : Fin 130) (r : Fin 128) : EReal := res_main_v99 L (ix5 b nn r g e)
def divisorOf (b : Fin 2) (n : Fin 128) (g h : Fin 4) (r : Fin 128) : EReal := res_main_v159 L (ix6 b n g h r 0)

/-- The weighted values over the divisor are the layer's attention. -/
theorem result (b : Fin 2) (n : Fin 128) (g h : Fin 4) (r : Fin 128) (e : Fin 64) :
    Ideal.div (∑ k : Fin 384, weightOf L b n g h r k
        * (if h1 : k.val < 128 then valueOf L b g e ⟨n.val, by omega⟩ ⟨k.val, h1⟩
          else if h2 : k.val - 128 < 128 then valueOf L b g e ⟨1 + n.val, by omega⟩ ⟨k.val - 128, h2⟩
          else valueOf L b g e ⟨2 + n.val, by omega⟩ ⟨k.val - 128 - 128, by omega⟩))
        (divisorOf L b n g h r)
      = layer (X L) (GQ L) (GK L) (SK L) b n r g h e := by
  unfold weightOf divisorOf
  rw [divisor]
  simp only [weights]
  refine attnRow_congr (srow L b n g h r) (srow L b n g h r) _ _ (SK L ⟨4 * g.val + h.val, by omega⟩) (fun _ => rfl) fun k hk => ?_
  have hs := seen_of_score L b n g h r k hk
  refine three (valueOf L b g e) n k _ fun nn r' hn => ?_
  have hp := kpos_seen k.isLt hs
  unfold seen at hs
  exact valueK L b nn r' g e ⟨kpos n.val k.val, kpos_lt _ _⟩ (by show _ = kpos n.val k.val + 128; omega)

/-- The same of any three that are these. -/
theorem result_of (b : Fin 2) (n : Fin 128) (g h : Fin 4) (r : Fin 128) (e : Fin 64) (W : Fin 384 → EReal)
    (U : Fin 130 → Fin 128 → EReal) (D : EReal) (hW : weightOf L b n g h r = W) (hU : valueOf L b g e = U) (hD : divisorOf L b n g h r = D) :
    Ideal.div (∑ k : Fin 384, W k
        * (if h1 : k.val < 128 then U ⟨n.val, by omega⟩ ⟨k.val, h1⟩
          else if h2 : k.val - 128 < 128 then U ⟨1 + n.val, by omega⟩ ⟨k.val - 128, h2⟩
          else U ⟨2 + n.val, by omega⟩ ⟨k.val - 128 - 128, by omega⟩)) D
      = layer (X L) (GQ L) (GK L) (SK L) b n r g h e := by
  subst hW hU hD
  exact result L b n g h r e

/-- Every complete run of the reference leaves the layer's attention in its result. -/
theorem runR (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v171)
        = (fun i => out (X (launchContents m c)) (GQ (launchContents m c)) (GK (launchContents m c)) (SK (launchContents m c)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (run (F := Ideal) m ρ)
  generalize launchContents m c = L
  funext i
  idx_vars i
  clean_types
  generalize hA : res_main_v153 L = A
  generalize hB : res_main_v99 L = B
  generalize hD : res_main_v159 L = D
  pointwise
  have h0 : i0.val / 16384 < 2 := by omega
  have h1 : i0.val / 128 % 128 < 128 := by omega
  have h2 : i1.val / 256 < 4 := by omega
  have h3 : i1.val / 64 % 4 < 4 := by omega
  have h4 : i0.val % 128 < 128 := by omega
  have h5 : i1.val % 64 < 64 := by omega
  exact result_of L ⟨_, h0⟩ ⟨_, h1⟩ ⟨_, h2⟩ ⟨_, h3⟩ ⟨_, h4⟩ ⟨_, h5⟩ (fun k => A (ix6 ⟨_, h0⟩ ⟨_, h1⟩ ⟨_, h2⟩ ⟨_, h3⟩ ⟨_, h4⟩ k))
    (fun nn r => B (ix5 ⟨_, h0⟩ nn r ⟨_, h2⟩ ⟨_, h5⟩)) (D (ix6 ⟨_, h0⟩ ⟨_, h1⟩ ⟨_, h2⟩ ⟨_, h3⟩ ⟨_, h4⟩ 0))
    (funext fun k => congrFun hA _) (funext fun nn => funext fun r => congrFun hB _) (congrFun hD _)

end Cert.Proof.Refer
-- ==== Proof.Attention.lean ====
/- The window attention's claims: the two programs leave the same array, the layer's attention. -/
module

public import proofs.«01_k».proof.Defs
public import proofs.«01_k».proof.Proof.Arrays
public import proofs.«01_k».proof.Proof.Result
public import proofs.«01_k».proof.Proof.Gen.Kernel.Frame

@[expose] public section

set_option maxRecDepth 16384

noncomputable section

namespace Cert.Proof.Attention

open Idealize.ShloMosaic Idealize.SL.Sem Cert.Proof.Layer

/-- The kernel, its idealization and the reference run to the end and leave their arguments. -/
theorem frame_kernel : Cert.quiescent_Kernel := fun m ρ _ => Cert.Kernel.Gen.frame m ρ
theorem frame_ideal : Cert.quiescent_KernelIdeal := fun m ρ _ => Cert.KernelIdeal.Gen.frame m ρ
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's constant is named as minus infinity. -/
theorem preserves : Cert.preserves_Kernel_KernelIdeal :=
  IdealRules.named_const.statement Cert.KernelIdeal.κ "mask" .f32 0xF149F2CA#32 ⊥ rfl

/-- The layer's attention of the kernel's arguments, as an array. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v32) :=
  fun i => out (Arrays.X m c) (Arrays.GQ m c) (Arrays.GK m c) (Arrays.SK m c) (i 0) (i 1)

/-- The kernel's array is that. -/
theorem kernel_array (m : (ℓ : Loc Cert.KernelIdeal.nD Cert.KernelIdeal.τ Cert.KernelIdeal.sig) → Buf (Elt Ideal) ℓ) (c : Dev Cert.KernelIdeal.nD) :
    (Cert.KernelIdeal.Gen.dats m 0 c).arrAt 16 Cert.KernelIdeal.cfg0.N = result m c := by
  funext i
  have e : i = ix2 (i 0) (i 1) := by
    funext a
    match a with
    | ⟨0, _⟩ => rfl
    | ⟨1, _⟩ => rfl
  exact (congrArg _ e).trans (Arrays.final_apply m c (i 0) (i 1))

/-- From arguments that agree both programs end at the layer's attention, element by element. -/
theorem algebraic : Cert.algebraic_KernelIdeal_ReferenceIdeal := by
  intro m ρ m' ρ' _ hagree
  refine ⟨fun c => result m c, ?_, ?_⟩
  · exact (θ_run Cert.KernelIdeal.defs _ _).mono (fun _ h c => ⟨(h c).1.trans (kernel_array m c), (h c).2⟩)
      (Cert.KernelIdeal.Value.run_blocks (F := Ideal) m ρ)
  · have hx (c : Dev Cert.KernelIdeal.nD) : Refer.X (StableHlo.launchContents m' c) = Arrays.X m c :=
      funext fun i => funext fun j => congrFun (hagree c).1 (ix2 i j)
    have hq (c : Dev Cert.KernelIdeal.nD) : Refer.GQ (StableHlo.launchContents m' c) = Arrays.GQ m c :=
      funext fun i => congrFun (hagree c).2.1 (ix1 i)
    have hk (c : Dev Cert.KernelIdeal.nD) : Refer.GK (StableHlo.launchContents m' c) = Arrays.GK m c :=
      funext fun i => congrFun (hagree c).2.2.1 (ix1 i)
    have hs (c : Dev Cert.KernelIdeal.nD) : Refer.SK (StableHlo.launchContents m' c) = Arrays.SK m c :=
      funext fun i => congrFun (hagree c).2.2.2 (ix1 i)
    refine (θ_run Cert.ReferenceIdeal.defs _ _).mono (fun r h c => ⟨(h c).1.trans ?_, (h c).2⟩) (Refer.runR m' ρ')
    unfold result
    rw [hx, hq, hk, hs]
    rfl

end Cert.Proof.Attention
-- ==== Proof.Rows.lean ====
/- The input projections of the layer over the extended reals: a row's norm and its product with a column. The kernels and
   the references are read down to these functions. -/
module

public import proofs.«01_k».proof.Proof.Spec

@[expose] public section

noncomputable section

namespace Cert.Proof.Rows

open Idealize.ShloMosaic Idealize.ShloMosaic.TcCoe

/-- A row over the square root of its mean square (and the small constant), times the gains. -/
def normRow (x g : Fin 1024 → EReal) (k : Fin 1024) : EReal :=
  x k * Ideal.rsqrt (Ideal.div (∑ i, x i * x i) (Ideal.ofBits .f32 0x44800000#32) + Ideal.ofBits .f32 0x358637BD#32) * g k

/-- The product of the normed row `i` with column `j` of the weights. -/
def proj {n : Nat} (x : Fin 32768 → Fin 1024 → EReal) (g : Fin 1024 → EReal) (w : Fin 1024 → Fin n → EReal) (i : Fin 32768)
    (j : Fin n) : EReal :=
  ∑ k, normRow (x i) g k * w k j

/-- What is made anew at every `P`-th point and carried on between is, at each point, what its group of `P` points made. -/
theorem carried {α : Type} {N P B : ℕ} (kept : ∀ n, n < N → α) (made : ∀ b, b < B → α) (hb : ∀ n, n < N → n / P < B)
    (first : ∀ n h, n % P = 0 → kept n h = made (n / P) (hb n h))
    (next : ∀ n h, ¬ n % P = 0 → kept n h = kept (n - 1) (Nat.lt_of_le_of_lt (Nat.sub_le _ _) h)) :
    ∀ n h, kept n h = made (n / P) (hb n h) := by
  intro n
  induction n with
  | zero => exact fun h => first 0 h (Nat.zero_mod P)
  | succ n ih =>
    intro h
    by_cases h0 : (n + 1) % P = 0
    · exact first _ h h0
    · refine (next _ h h0).trans ((ih (Nat.lt_of_succ_lt h)).trans ?_)
      have e : n / P = (n + 1) / P := by
        rw [Nat.succ_div, if_neg fun d => h0 (Nat.mod_eq_zero_of_dvd d), Nat.add_zero]
      simp only [e]

/-- An index of two axes is its two coordinates. -/
theorem coords {a b : ℕ} (i : (⟨2, ![a, b]⟩ : Shape).Idx) : i = ix2 (i 0) (i 1) := by
  funext d
  match d with
  | ⟨0, _⟩ => rfl
  | ⟨1, _⟩ => rfl

end Cert.Proof.Rows
-- ==== Proof.HostRows.lean ====
/- The reference's product of the normed rows with all the columns of the weights, read at an index. -/
module

public import proofs.«01_k».proof.Proof.Rows
public import proofs.«01_k».proof.Proof.Gen.GatesReferenceIdeal.Run
public import Idealize.ShloMosaic.Lib.Pointwise.IndexVar
public import Idealize.ShloMosaic.Lib.StableHlo.ReadAt

@[expose] public section

set_option maxRecDepth 16384

noncomputable section

namespace Cert.Proof.HostRows

open Cert.GatesReferenceIdeal Idealize.ShloMosaic Idealize.ShloMosaic.StableHlo Cert.GatesReferenceIdeal.Gen Cert.Proof.Rows
open Idealize.ShloMosaic.TcCoe

variable (x : FVec Ideal S32768x1024 .f32) (g : FVec Ideal S1024 .f32) (w : FVec Ideal S1024x9504 .f32)

/-- The normed rows as the reference writes them, -/
def normed : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- and their product with the weights. -/
def product : FVec Ideal S32768x9504 .f32 :=
  Host.dotGeneral dot_S32768x1024_S1024x9504_S32768x9504_1_0_0_1_n_n none (normed x g) w

theorem normed_apply (i : Fin 32768) (k : Fin 1024) :
    normed x g (ix2 i k) = normRow (fun k => x (ix2 i k)) (fun k => g (ix1 k)) k := by
  pointwise [normed]
  rfl

theorem product_apply (i : Fin 32768) (j : Fin 9504) :
    product x g w (ix2 i j)
      = proj (fun i k => x (ix2 i k)) (fun k => g (ix1 k)) (fun k (j : Fin 9504) => w (ix2 k j)) i j := by
  unfold product
  have h (k : Fin 1024) := normed_apply x g i k
  generalize normed x g = y at h
  pointwise
  unfold proj
  simp only [← h]

end Cert.Proof.HostRows
-- ==== Proof.Gates.lean ====
/- The projection to the gates: the kernel's blocks, the array that its run leaves, the reference's, and the claims. -/
module

public import proofs.«01_k».proof.Defs
public import proofs.«01_k».proof.Proof.Rows
public import proofs.«01_k».proof.Proof.HostRows
public import proofs.«01_k».proof.Proof.Gen.Gates.Frame
public import proofs.«01_k».proof.Proof.Gen.GatesIdeal.Value
public import Idealize.ShloMosaic.Lib.StableHlo.ReadAt
public import Idealize.ShloMosaic.Lib.Pipeline.ValueKit

@[expose] public section

set_option maxRecDepth 16384

noncomputable section

namespace Cert.Proof.Gates

open Cert.GatesIdeal Cert.GatesIdeal.Gen Cert.GatesIdeal.Value Idealize.ShloMosaic Idealize.ShloMosaic.StableHlo
open Idealize.ShloMosaic.TcCoe Idealize.SL.Sem Cert.Proof.Rows

/-- What the first block of a row of blocks keeps: the normed rows. -/
theorem kept_apply (x : Vec Ideal S1024x1024 .f32) (g : Vec Ideal S1x1024 .f32) (r k : Fin 1024) :
    k0_pay1 x g (ix2 r k) = normRow (fun k => x (ix2 r k)) (fun k => g (ix2 0 k)) k := by
  pointwise [k0_pay1]
  rfl

/-- The product of the kept rows with a block of columns. -/
theorem product_apply (a w : Vec Ideal S1024x1024 .bf16) (r j : Fin 1024) :
    k0_pay2 a w (ix2 r j) = ∑ k : Fin 1024, (a (ix2 r k) : EReal) * (w (ix2 k j) : EReal) := by
  pointwise [k0_pay2]

variable (m : (ℓ : Loc nD τ sig) → Buf (Elt Ideal) ℓ) (c : Dev nD)

/-- At the first block of columns the body norms its rows, keeps them, and multiplies them by the block; -/
theorem first_point (t : Fin cfg0.N) (h : t.val % 3 = 0) :
    outsAt0 m c t.val t.isLt = (k0_pay2 (k0_pay1 (iblk m c 0 t) (iblk m c 1 t)) (iblk m c 2 t), k0_pay1 (iblk m c 0 t) (iblk m c 1 t)) := by
  rw [outsAt0_A m c t h]
  frame_out

/-- at the others it multiplies the rows kept before. -/
theorem next_point (t : Fin cfg0.N) (h : ¬ t.val % 3 = 0) :
    outsAt0 m c t.val t.isLt = (k0_pay2 (outsAt0 m c (t.val - 1) (Nat.lt_of_le_of_lt (Nat.sub_le _ _) t.isLt)).2 (iblk m c 2 t),
      (outsAt0 m c (t.val - 1) (Nat.lt_of_le_of_lt (Nat.sub_le _ _) t.isLt)).2) := by
  rw [outsAt0_B m c t h]
  frame_out
  exact congrArg₂ Prod.mk (congrArg (fun a => k0_pay2 a (iblk m c 2 t)) ((Memref.isWhole_whole _).read_unread _)) rfl

/-- The rows, -/
def X (i : Fin 32768) (k : Fin 1024) : EReal := m (c, Proc.tc.devRef main_arg0) (ix2 i k)
/-- the gains -/
def G (k : Fin 1024) : EReal := m (c, Proc.tc.devRef main_arg1) (ix1 k)
/-- and the columns of the weights. -/
def W (k : Fin 1024) (j : Fin 3072) : EReal := m (c, Proc.tc.devRef main_arg2) (ix2 k ⟨6432 + j.val, by omega⟩)

/-- The host's weights are those columns, -/
theorem weights (k : Fin 1024) (j : Fin 3072) : V m c main_v1 (ix2 k j) = W m c k j := by
  unfold V
  after_reads_at
  pointwise
  rfl

/-- and its gains the gains. -/
theorem gains (k : Fin 1024) : V m c main_v2 (ix2 0 k) = G m c k := by
  unfold V
  after_reads_at
  pointwise
  rfl

/-- Where the blocks of grid point `t` lie. -/
theorem at_point : ∀ t : Fin cfg0.N, win0_0.index t (0 : Fin 2) = t.val / 3 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 3
    ∧ win0_3.index t (0 : Fin 2) = t.val / 3 ∧ win0_3.index t (1 : Fin 2) = t.val % 3 :=
  (by decide +kernel : ∀ t : Fin grid0.N, _)

theorem lt_points (t : Fin cfg0.N) : t.val < 96 := lt_of_lt_of_le t.isLt (by decide)

variable (t : Fin cfg0.N)

theorem block0 (r k : Fin 1024) :
    iblk m c 0 t (ix2 r k) = X m c ⟨1024 * (t.val / 3) + r.val, by have := lt_points t; omega⟩ k := by
  have f := at_point t
  show V m c main_arg0 (((cfg0.win 0).blk t).view.emb (ix2 r k)) = _
  refine (congrFun (V_main_arg0 m c) _).trans (congrArg (m (c, Proc.tc.devRef main_arg0)) ?_)
  funext a; apply Fin.ext
  match a with
  | ⟨0, _⟩ => show win0_0.index t (0 : Fin 2) * 1024 + 1 * r.val = 1024 * (t.val / 3) + r.val; omega
  | ⟨1, _⟩ => show win0_0.index t (1 : Fin 2) * 1024 + 1 * k.val = k.val; omega

theorem block1 (k : Fin 1024) : iblk m c 1 t (ix2 0 k) = G m c k := by
  have f := at_point t
  refine Eq.trans (congrArg (V m c main_v2) ?_) (gains m c k)
  funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem block2 (k j : Fin 1024) :
    iblk m c 2 t (ix2 k j) = W m c k ⟨1024 * (t.val % 3) + j.val, by omega⟩ := by
  have f := at_point t
  refine Eq.trans (congrArg (V m c main_v1) ?_) (weights m c k _)
  funext a; apply Fin.ext
  match a with
  | ⟨0, _⟩ => show win0_2.index t (0 : Fin 2) * 1024 + 1 * k.val = k.val; omega
  | ⟨1, _⟩ => show win0_2.index t (1 : Fin 2) * 1024 + 1 * j.val = 1024 * (t.val % 3) + j.val; omega

/-- The rows kept at grid point `t` are the normed rows of its row of blocks. -/
theorem kept (r k : Fin 1024) :
    (outsAt0 m c t.val t.isLt).2 (ix2 r k)
      = normRow (X m c ⟨1024 * (t.val / 3) + r.val, by have := lt_points t; omega⟩) (G m c) k := by
  refine carried (P := 3) (B := 32) (fun n h => (outsAt0 m c n h).2 (ix2 r k))
    (fun b hb => normRow (X m c ⟨1024 * b + r.val, by omega⟩) (G m c) k)
    (fun n h => by have := lt_points ⟨n, h⟩; dsimp only at this; omega) (fun n h h0 => ?_) (fun n h h0 => ?_) t.val t.isLt
  · rw [first_point m c ⟨n, h⟩ h0]
    refine (kept_apply _ _ r k).trans ?_
    rw [funext fun k => block0 m c ⟨n, h⟩ r k, funext fun k => block1 m c ⟨n, h⟩ k]
  · rw [next_point m c ⟨n, h⟩ h0]

/-- What grid point `t` leaves in its block of the array. -/
theorem point_apply (r j : Fin 1024) :
    (outsAt0 m c t.val t.isLt).1 (ix2 r j)
      = proj (X m c) (G m c) (W m c) ⟨1024 * (t.val / 3) + r.val, by have := lt_points t; omega⟩ ⟨1024 * (t.val % 3) + j.val, by omega⟩ := by
  have e : (outsAt0 m c t.val t.isLt).1 = k0_pay2 (outsAt0 m c t.val t.isLt).2 (iblk m c 2 t) := by
    by_cases h : t.val % 3 = 0
    · rw [first_point m c t h]
    · rw [next_point m c t h]
  rw [e]
  refine (product_apply _ _ r j).trans (Finset.sum_congr rfl fun k _ => ?_)
  exact congrArg₂ (fun a b : EReal => a * b) (kept m c t r k) (block2 m c t k j)

/-- The array that the run leaves. -/
theorem final_apply (i : Fin 32768) (j : Fin 3072) :
    (dats m 0 c).arrAt 3 cfg0.N (ix2 i j) = proj (X m c) (G m c) (W m c) i j := by
  have hN : cfg0.N = 96 := by decide
  let t : Fin cfg0.N := ⟨3 * (i.val / 1024) + j.val / 1024, by omega⟩
  let r : Fin 1024 := ⟨i.val % 1024, by omega⟩
  let q : Fin 1024 := ⟨j.val % 1024, by omega⟩
  have f := at_point t
  have hd : t.val / 3 = i.val / 1024 := by show (3 * (i.val / 1024) + j.val / 1024) / 3 = _; omega
  have hm : t.val % 3 = j.val / 1024 := by show (3 * (i.val / 1024) + j.val / 1024) % 3 = _; omega
  have w := congrFun (blocks3 m c t (flush0_3 t)) (ix2 r q)
  rw [flushed3] at w
  have w' : (dats m 0 c).arrAt 3 cfg0.N (((cfg0.win 3).blk t).view.emb (ix2 r q)) = (outsAt0 m c t.val t.isLt).1 (ix2 r q) := w
  have em : ((cfg0.win 3).blk t).view.emb (ix2 r q) = ix2 i j := by
    funext a; apply Fin.ext
    match a with
    | ⟨0, _⟩ => show win0_3.index t (0 : Fin 2) * 1024 + 1 * (i.val % 1024) = i.val; omega
    | ⟨1, _⟩ => show win0_3.index t (1 : Fin 2) * 1024 + 1 * (j.val % 1024) = j.val; omega
  rw [em] at w'
  rw [w', point_apply]
  exact congrArg₂ (proj (X m c) (G m c) (W m c)) (Fin.ext (by show 1024 * (t.val / 3) + i.val % 1024 = i.val; omega))
    (Fin.ext (by show 1024 * (t.val % 3) + j.val % 1024 = j.val; omega))

/-- The projection of the kernel's arguments, as an array. -/
def result : Buf (Elt Ideal) ((c.tc : Thread nD τ).loc main_v3) :=
  fun i => proj (X m c) (G m c) (W m c) (i 0) (i 1)

/-- The kernel's array is that. -/
theorem kernel_array : (dats m 0 c).arrAt 3 cfg0.N = result m c := by
  funext i
  exact (congrArg _ (coords i)).trans (final_apply m c (i 0) (i 1))

/-- The reference's array is the projection of its arguments. -/
theorem reference_apply (x : FVec Ideal S32768x1024 .f32) (g : FVec Ideal S1024 .f32) (w : FVec Ideal S1024x9504 .f32) (i : Fin 32768)
    (j : Fin 3072) :
    extractStridedSlice S32768x3072 ![0, 6432] (HostRows.product x g w) Cert.GatesReferenceIdeal.Gen.slices_S32768x9504_S32768x3072_0_6432 (ix2 i j)
      = proj (fun i k => x (ix2 i k)) (fun k => g (ix1 k)) (fun k (j : Fin 3072) => w (ix2 k ⟨6432 + j.val, by omega⟩)) i j := by
  have h := HostRows.product_apply x g w i ⟨6432 + j.val, by omega⟩
  generalize HostRows.product x g w = y at h
  pointwise
  exact h

/-- The kernel, its idealization and the reference run to the end and leave their arguments. -/
theorem frame_kernel : Cert.quiescent_Gates := fun m ρ _ => Cert.Gates.Gen.frame m ρ
theorem frame_ideal : Cert.quiescent_GatesIdeal := fun m ρ _ => Cert.GatesIdeal.Gen.frame m ρ
theorem frame_reference : Cert.quiescent_GatesReferenceIdeal := fun m ρ _ =>
  (θ_run Cert.GatesReferenceIdeal.defs _ _).mono (fun r h => ⟨fun c => (h c).2, sem_eq_zero_of_no_sems (by decide) r.2⟩)
    (Cert.GatesReferenceIdeal.Value.run (F := Ideal) m ρ)

/-- The idealized kernel is the kernel. -/
theorem preserves : Cert.preserves_Gates_GatesIdeal := trivial

/-- From arguments that agree both programs end at the projection, element by element. -/
theorem algebraic : Cert.algebraic_GatesIdeal_GatesReferenceIdeal := by
  intro m ρ m' ρ' _ hagree
  refine ⟨fun c => result m c, ?_, ?_⟩
  · exact (θ_run Cert.GatesIdeal.defs _ _).mono (fun _ h c => ⟨(h c).1.trans (kernel_array m c), (h c).2⟩)
      (Cert.GatesIdeal.Value.run_blocks (F := Ideal) m ρ)
  · refine (θ_run Cert.GatesReferenceIdeal.defs _ _).mono (fun r h c => ⟨(h c).1.trans ?_, (h c).2⟩)
      (Cert.GatesReferenceIdeal.Value.run (F := Ideal) m' ρ')
    rw [(hagree c).1, (hagree c).2.1, (hagree c).2.2]
    funext i
    exact (congrArg _ (coords i)).trans (reference_apply _ _ _ (i 0) (i 1))

end Cert.Proof.Gates
-- ==== Proof.Ssm.lean ====
/- The projection to the state space heads: the kernel's blocks, the array that its run leaves, the reference's, and the claims. -/
module

public import proofs.«01_k».proof.Defs
public import proofs.«01_k».proof.Proof.Rows
public import proofs.«01_k».proof.Proof.Gates
public import proofs.«01_k».proof.Proof.Gen.Ssm.Frame
public import proofs.«01_k».proof.Proof.Gen.SsmIdeal.Value
public import Idealize.ShloMosaic.Lib.StableHlo.ReadAt
public import Idealize.ShloMosaic.Lib.Pipeline.ValueKit

@[expose] public section

set_option maxRecDepth 16384

noncomputable section

namespace Cert.Proof.Ssm

open Cert.SsmIdeal Cert.SsmIdeal.Gen Cert.SsmIdeal.Value Idealize.ShloMosaic Idealize.ShloMosaic.StableHlo
open Idealize.ShloMosaic.TcCoe Idealize.SL.Sem Cert.Proof.Rows

/-- The integer zero, as a number. -/
theorem zero_bf16 : (FloatOps.sitofp .bf16 0#32 : Ideal .bf16) = (0 : EReal) := by
  show (((0#32 : BitVec 32).toInt : ℝ) : EReal) = 0
  simp

theorem zero_f32 : (FloatOps.sitofp .f32 0#32 : Ideal .f32) = (0 : EReal) := by
  show (((0#32 : BitVec 32).toInt : ℝ) : EReal) = 0
  simp

/-- The product of the kept rows with a block of columns. -/
theorem product_apply (a : Vec Ideal S1024x1024 .bf16) (w : Vec Ideal S1024x896 .bf16) (r : Fin 1024) (j : Fin 896) :
    k0_pay2 a w (ix2 r j) = ∑ k : Fin 1024, (a (ix2 r k) : EReal) * (w (ix2 k j) : EReal) := by
  pointwise [k0_pay2]

variable (m : (ℓ : Loc nD τ sig) → Buf (Elt Ideal) ℓ) (c : Dev nD)

/-- At the first block of columns the body norms its rows, keeps them, and multiplies them by the block; -/
theorem first_point (t : Fin cfg0.N) (h : t.val % 3 = 0) :
    outsAt0 m c t.val t.isLt = (k0_pay2 (k0_pay1 (iblk m c 0 t) (iblk m c 1 t)) (iblk m c 2 t), k0_pay1 (iblk m c 0 t) (iblk m c 1 t)) := by
  rw [outsAt0_A m c t h]
  frame_out

/-- at the others it multiplies the rows kept before. -/
theorem next_point (t : Fin cfg0.N) (h : ¬ t.val % 3 = 0) :
    outsAt0 m c t.val t.isLt = (k0_pay2 (outsAt0 m c (t.val - 1) (Nat.lt_of_le_of_lt (Nat.sub_le _ _) t.isLt)).2 (iblk m c 2 t),
      (outsAt0 m c (t.val - 1) (Nat.lt_of_le_of_lt (Nat.sub_le _ _) t.isLt)).2) := by
  rw [outsAt0_B m c t h]
  frame_out
  exact congrArg₂ Prod.mk (congrArg (fun a => k0_pay2 a (iblk m c 2 t)) ((Memref.isWhole_whole _).read_unread _)) rfl

/-- The rows, -/
def X (i : Fin 32768) (k : Fin 1024) : EReal := m (c, Proc.tc.devRef main_arg0) (ix2 i k)
/-- the gains -/
def G (k : Fin 1024) : EReal := m (c, Proc.tc.devRef main_arg1) (ix1 k)
/-- and the columns of the weights, with columns of zeros after the first 2592. -/
def W (k : Fin 1024) (j : Fin 2688) : EReal :=
  if h : j.val < 2592 then m (c, Proc.tc.devRef main_arg2) (ix2 k ⟨j.val, by omega⟩) else 0

/-- The host's weights are those columns, -/
theorem weights (k : Fin 1024) (j : Fin 2688) : V m c main_v2 (ix2 k j) = W m c k j := by
  unfold V
  after_reads_at
  pointwise
  rw [zero_bf16]
  rfl

/-- and its gains the gains. -/
theorem gains (k : Fin 1024) : V m c main_v3 (ix2 0 k) = G m c k := by
  unfold V
  after_reads_at
  pointwise
  rfl

/-- Where the blocks of grid point `t` lie. -/
theorem at_point : ∀ t : Fin cfg0.N, win0_0.index t (0 : Fin 2) = t.val / 3 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 3
    ∧ win0_3.index t (0 : Fin 2) = t.val / 3 ∧ win0_3.index t (1 : Fin 2) = t.val % 3 :=
  (by decide +kernel : ∀ t : Fin grid0.N, _)

theorem lt_points (t : Fin cfg0.N) : t.val < 96 := lt_of_lt_of_le t.isLt (by decide)

variable (t : Fin cfg0.N)

theorem block0 (r k : Fin 1024) :
    iblk m c 0 t (ix2 r k) = X m c ⟨1024 * (t.val / 3) + r.val, by have := lt_points t; omega⟩ k := by
  have f := at_point t
  show V m c main_arg0 (((cfg0.win 0).blk t).view.emb (ix2 r k)) = _
  refine (congrFun (V_main_arg0 m c) _).trans (congrArg (m (c, Proc.tc.devRef main_arg0)) ?_)
  funext a; apply Fin.ext
  match a with
  | ⟨0, _⟩ => show win0_0.index t (0 : Fin 2) * 1024 + 1 * r.val = 1024 * (t.val / 3) + r.val; omega
  | ⟨1, _⟩ => show win0_0.index t (1 : Fin 2) * 1024 + 1 * k.val = k.val; omega

theorem block1 (k : Fin 1024) : iblk m c 1 t (ix2 0 k) = G m c k := by
  have f := at_point t
  refine Eq.trans (congrArg (V m c main_v3) ?_) (gains m c k)
  funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem block2 (k : Fin 1024) (j : Fin 896) :
    iblk m c 2 t (ix2 k j) = W m c k ⟨896 * (t.val % 3) + j.val, by omega⟩ := by
  have f := at_point t
  refine Eq.trans (congrArg (V m c main_v2) ?_) (weights m c k _)
  funext a; apply Fin.ext
  match a with
  | ⟨0, _⟩ => show win0_2.index t (0 : Fin 2) * 1024 + 1 * k.val = k.val; omega
  | ⟨1, _⟩ => show win0_2.index t (1 : Fin 2) * 896 + 1 * j.val = 896 * (t.val % 3) + j.val; omega

/-- The rows kept at grid point `t` are the normed rows of its row of blocks. -/
theorem kept (r k : Fin 1024) :
    (outsAt0 m c t.val t.isLt).2 (ix2 r k)
      = normRow (X m c ⟨1024 * (t.val / 3) + r.val, by have := lt_points t; omega⟩) (G m c) k := by
  refine carried (P := 3) (B := 32) (fun n h => (outsAt0 m c n h).2 (ix2 r k))
    (fun b hb => normRow (X m c ⟨1024 * b + r.val, by omega⟩) (G m c) k)
    (fun n h => by have := lt_points ⟨n, h⟩; dsimp only at this; omega) (fun n h h0 => ?_) (fun n h h0 => ?_) t.val t.isLt
  · rw [first_point m c ⟨n, h⟩ h0]
    refine (Gates.kept_apply _ _ r k).trans ?_
    rw [funext fun k => block0 m c ⟨n, h⟩ r k, funext fun k => block1 m c ⟨n, h⟩ k]
  · rw [next_point m c ⟨n, h⟩ h0]

/-- What grid point `t` leaves in its block of the array. -/
theorem point_apply (r : Fin 1024) (j : Fin 896) :
    (outsAt0 m c t.val t.isLt).1 (ix2 r j)
      = proj (X m c) (G m c) (W m c) ⟨1024 * (t.val / 3) + r.val, by have := lt_points t; omega⟩ ⟨896 * (t.val % 3) + j.val, by omega⟩ := by
  have e : (outsAt0 m c t.val t.isLt).1 = k0_pay2 (outsAt0 m c t.val t.isLt).2 (iblk m c 2 t) := by
    by_cases h : t.val % 3 = 0
    · rw [first_point m c t h]
    · rw [next_point m c t h]
  rw [e]
  refine (product_apply _ _ r j).trans (Finset.sum_congr rfl fun k _ => ?_)
  exact congrArg₂ (fun a b : EReal => a * b) (kept m c t r k) (block2 m c t k j)

/-- The array that the run leaves. -/
theorem final_apply (i : Fin 32768) (j : Fin 2688) :
    (dats m 0 c).arrAt 3 cfg0.N (ix2 i j) = proj (X m c) (G m c) (W m c) i j := by
  have hN : cfg0.N = 96 := by decide
  let t : Fin cfg0.N := ⟨3 * (i.val / 1024) + j.val / 896, by omega⟩
  let r : Fin 1024 := ⟨i.val % 1024, by omega⟩
  let q : Fin 896 := ⟨j.val % 896, by omega⟩
  have f := at_point t
  have hd : t.val / 3 = i.val / 1024 := by show (3 * (i.val / 1024) + j.val / 896) / 3 = _; omega
  have hm : t.val % 3 = j.val / 896 := by show (3 * (i.val / 1024) + j.val / 896) % 3 = _; omega
  have w := congrFun (blocks3 m c t (flush0_3 t)) (ix2 r q)
  rw [flushed3] at w
  have w' : (dats m 0 c).arrAt 3 cfg0.N (((cfg0.win 3).blk t).view.emb (ix2 r q)) = (outsAt0 m c t.val t.isLt).1 (ix2 r q) := w
  have em : ((cfg0.win 3).blk t).view.emb (ix2 r q) = ix2 i j := by
    funext a; apply Fin.ext
    match a with
    | ⟨0, _⟩ => show win0_3.index t (0 : Fin 2) * 1024 + 1 * (i.val % 1024) = i.val; omega
    | ⟨1, _⟩ => show win0_3.index t (1 : Fin 2) * 896 + 1 * (j.val % 896) = j.val; omega
  rw [em] at w'
  rw [w', point_apply]
  exact congrArg₂ (proj (X m c) (G m c) (W m c)) (Fin.ext (by show 1024 * (t.val / 3) + i.val % 1024 = i.val; omega))
    (Fin.ext (by show 896 * (t.val % 3) + j.val % 896 = j.val; omega))

/-- The projection of the kernel's arguments, as an array. -/
def result : Buf (Elt Ideal) ((c.tc : Thread nD τ).loc main_v4) :=
  fun i => proj (X m c) (G m c) (W m c) (i 0) (i 1)

/-- The kernel's array is that. -/
theorem kernel_array : (dats m 0 c).arrAt 3 cfg0.N = result m c := by
  funext i
  exact (congrArg _ (coords i)).trans (final_apply m c (i 0) (i 1))

/-- The reference's array is the projection of its arguments. -/
theorem reference_apply (x : FVec Ideal S32768x1024 .f32) (g : FVec Ideal S1024 .f32) (w : FVec Ideal S1024x9504 .f32) (i : Fin 32768)
    (j : Fin 2688) :
    pad S32768x2688 ![0, 0] ![0, 96] ![0, 0]
      (extractStridedSlice Cert.SsmReferenceIdeal.S32768x2592 ![0, 0] (HostRows.product x g w)
        Cert.SsmReferenceIdeal.Gen.slices_S32768x9504_S32768x2592_0_0)
      (sitofp .f32 (constantI S_ 32 0#32)) Cert.SsmReferenceIdeal.Gen.pads_S32768x2592_S32768x2688_000_0960
      Cert.SsmReferenceIdeal.Gen.h_S_ (ix2 i j)
      = proj (fun i k => x (ix2 i k)) (fun k => g (ix1 k))
          (fun k (j : Fin 2688) => if h : j.val < 2592 then w (ix2 k ⟨j.val, by omega⟩) else 0) i j := by
  have h := fun h0 : j.val < 2592 => HostRows.product_apply x g w i ⟨j.val, by omega⟩
  generalize HostRows.product x g w = y at h
  pointwise
  unfold proj
  by_cases h0 : j.val < 2592
  · simp only [dif_pos h0]
    exact h h0
  · simp only [dif_neg h0, zero_f32, mul_zero, Finset.sum_const_zero]

/-- The kernel, its idealization and the reference run to the end and leave their arguments. -/
theorem frame_kernel : Cert.quiescent_Ssm := fun m ρ _ => Cert.Ssm.Gen.frame m ρ
theorem frame_ideal : Cert.quiescent_SsmIdeal := fun m ρ _ => Cert.SsmIdeal.Gen.frame m ρ
theorem frame_reference : Cert.quiescent_SsmReferenceIdeal := fun m ρ _ =>
  (θ_run Cert.SsmReferenceIdeal.defs _ _).mono (fun r h => ⟨fun c => (h c).2, sem_eq_zero_of_no_sems (by decide) r.2⟩)
    (Cert.SsmReferenceIdeal.Value.run (F := Ideal) m ρ)

/-- The idealized kernel is the kernel. -/
theorem preserves : Cert.preserves_Ssm_SsmIdeal := trivial

/-- From arguments that agree both programs end at the projection, element by element. -/
theorem algebraic : Cert.algebraic_SsmIdeal_SsmReferenceIdeal := by
  intro m ρ m' ρ' _ hagree
  refine ⟨fun c => result m c, ?_, ?_⟩
  · exact (θ_run Cert.SsmIdeal.defs _ _).mono (fun _ h c => ⟨(h c).1.trans (kernel_array m c), (h c).2⟩)
      (Cert.SsmIdeal.Value.run_blocks (F := Ideal) m ρ)
  · refine (θ_run Cert.SsmReferenceIdeal.defs _ _).mono (fun r h c => ⟨(h c).1.trans ?_, (h c).2⟩)
      (Cert.SsmReferenceIdeal.Value.run (F := Ideal) m' ρ')
    rw [(hagree c).1, (hagree c).2.1, (hagree c).2.2]
    funext i
    exact (congrArg _ (coords i)).trans (reference_apply _ _ _ (i 0) (i 1))

end Cert.Proof.Ssm
-- ==== Proof.Swa.lean ====
/- The projection to the window attention: the kernel's blocks, the array that its run leaves, the reference's, and the claims. -/
module

public import proofs.«01_k».proof.Defs
public import proofs.«01_k».proof.Proof.Rows
public import proofs.«01_k».proof.Proof.Gates
public import proofs.«01_k».proof.Proof.Gen.Swa.Frame
public import proofs.«01_k».proof.Proof.Gen.SwaIdeal.Value
public import Idealize.ShloMosaic.Lib.StableHlo.ReadAt
public import Idealize.ShloMosaic.Lib.Pipeline.ValueKit

@[expose] public section

set_option maxRecDepth 16384

noncomputable section

namespace Cert.Proof.Swa

open Cert.SwaIdeal Cert.SwaIdeal.Gen Cert.SwaIdeal.Value Idealize.ShloMosaic Idealize.ShloMosaic.StableHlo
open Idealize.ShloMosaic.TcCoe Idealize.SL.Sem Cert.Proof.Rows

/-- The product of the kept rows with a block of columns. -/
theorem product_apply (a : Vec Ideal S1024x1024 .bf16) (w : Vec Ideal S1024x768 .bf16) (r : Fin 1024) (j : Fin 768) :
    k0_pay2 a w (ix2 r j) = ∑ k : Fin 1024, (a (ix2 r k) : EReal) * (w (ix2 k j) : EReal) := by
  pointwise [k0_pay2]

variable (m : (ℓ : Loc nD τ sig) → Buf (Elt Ideal) ℓ) (c : Dev nD)

/-- At the first block of columns the body norms its rows, keeps them, and multiplies them by the block; -/
theorem first_point (t : Fin cfg0.N) (h : t.val % 2 = 0) :
    outsAt0 m c t.val t.isLt = (k0_pay2 (k0_pay1 (iblk m c 0 t) (iblk m c 1 t)) (iblk m c 2 t), k0_pay1 (iblk m c 0 t) (iblk m c 1 t)) := by
  rw [outsAt0_A m c t h]
  frame_out

/-- at the others it multiplies the rows kept before. -/
theorem next_point (t : Fin cfg0.N) (h : ¬ t.val % 2 = 0) :
    outsAt0 m c t.val t.isLt = (k0_pay2 (outsAt0 m c (t.val - 1) (Nat.lt_of_le_of_lt (Nat.sub_le _ _) t.isLt)).2 (iblk m c 2 t),
      (outsAt0 m c (t.val - 1) (Nat.lt_of_le_of_lt (Nat.sub_le _ _) t.isLt)).2) := by
  rw [outsAt0_B m c t h]
  frame_out
  exact congrArg₂ Prod.mk (congrArg (fun a => k0_pay2 a (iblk m c 2 t)) ((Memref.isWhole_whole _).read_unread _)) rfl

/-- The rows, -/
def X (i : Fin 32768) (k : Fin 1024) : EReal := m (c, Proc.tc.devRef main_arg0) (ix2 i k)
/-- the gains -/
def G (k : Fin 1024) : EReal := m (c, Proc.tc.devRef main_arg1) (ix1 k)
/-- and the columns of the weights. -/
def W (k : Fin 1024) (j : Fin 1536) : EReal := m (c, Proc.tc.devRef main_arg2) (ix2 k ⟨2592 + j.val, by omega⟩)

/-- The host's weights are those columns, -/
theorem weights (k : Fin 1024) (j : Fin 1536) : V m c main_v1 (ix2 k j) = W m c k j := by
  unfold V
  after_reads_at
  pointwise
  rfl

/-- and its gains the gains. -/
theorem gains (k : Fin 1024) : V m c main_v2 (ix2 0 k) = G m c k := by
  unfold V
  after_reads_at
  pointwise
  rfl

/-- Where the blocks of grid point `t` lie. -/
theorem at_point : ∀ t : Fin cfg0.N, win0_0.index t (0 : Fin 2) = t.val / 2 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 2
    ∧ win0_3.index t (0 : Fin 2) = t.val / 2 ∧ win0_3.index t (1 : Fin 2) = t.val % 2 :=
  (by decide +kernel : ∀ t : Fin grid0.N, _)

theorem lt_points (t : Fin cfg0.N) : t.val < 64 := lt_of_lt_of_le t.isLt (by decide)

variable (t : Fin cfg0.N)

theorem block0 (r k : Fin 1024) :
    iblk m c 0 t (ix2 r k) = X m c ⟨1024 * (t.val / 2) + r.val, by have := lt_points t; omega⟩ k := by
  have f := at_point t
  show V m c main_arg0 (((cfg0.win 0).blk t).view.emb (ix2 r k)) = _
  refine (congrFun (V_main_arg0 m c) _).trans (congrArg (m (c, Proc.tc.devRef main_arg0)) ?_)
  funext a; apply Fin.ext
  match a with
  | ⟨0, _⟩ => show win0_0.index t (0 : Fin 2) * 1024 + 1 * r.val = 1024 * (t.val / 2) + r.val; omega
  | ⟨1, _⟩ => show win0_0.index t (1 : Fin 2) * 1024 + 1 * k.val = k.val; omega

theorem block1 (k : Fin 1024) : iblk m c 1 t (ix2 0 k) = G m c k := by
  have f := at_point t
  refine Eq.trans (congrArg (V m c main_v2) ?_) (gains m c k)
  funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem block2 (k : Fin 1024) (j : Fin 768) :
    iblk m c 2 t (ix2 k j) = W m c k ⟨768 * (t.val % 2) + j.val, by omega⟩ := by
  have f := at_point t
  refine Eq.trans (congrArg (V m c main_v1) ?_) (weights m c k _)
  funext a; apply Fin.ext
  match a with
  | ⟨0, _⟩ => show win0_2.index t (0 : Fin 2) * 1024 + 1 * k.val = k.val; omega
  | ⟨1, _⟩ => show win0_2.index t (1 : Fin 2) * 768 + 1 * j.val = 768 * (t.val % 2) + j.val; omega

/-- The rows kept at grid point `t` are the normed rows of its row of blocks. -/
theorem kept (r k : Fin 1024) :
    (outsAt0 m c t.val t.isLt).2 (ix2 r k)
      = normRow (X m c ⟨1024 * (t.val / 2) + r.val, by have := lt_points t; omega⟩) (G m c) k := by
  refine carried (P := 2) (B := 32) (fun n h => (outsAt0 m c n h).2 (ix2 r k))
    (fun b hb => normRow (X m c ⟨1024 * b + r.val, by omega⟩) (G m c) k)
    (fun n h => by have := lt_points ⟨n, h⟩; dsimp only at this; omega) (fun n h h0 => ?_) (fun n h h0 => ?_) t.val t.isLt
  · rw [first_point m c ⟨n, h⟩ h0]
    refine (Gates.kept_apply _ _ r k).trans ?_
    rw [funext fun k => block0 m c ⟨n, h⟩ r k, funext fun k => block1 m c ⟨n, h⟩ k]
  · rw [next_point m c ⟨n, h⟩ h0]

/-- What grid point `t` leaves in its block of the array. -/
theorem point_apply (r : Fin 1024) (j : Fin 768) :
    (outsAt0 m c t.val t.isLt).1 (ix2 r j)
      = proj (X m c) (G m c) (W m c) ⟨1024 * (t.val / 2) + r.val, by have := lt_points t; omega⟩ ⟨768 * (t.val % 2) + j.val, by omega⟩ := by
  have e : (outsAt0 m c t.val t.isLt).1 = k0_pay2 (outsAt0 m c t.val t.isLt).2 (iblk m c 2 t) := by
    by_cases h : t.val % 2 = 0
    · rw [first_point m c t h]
    · rw [next_point m c t h]
  rw [e]
  refine (product_apply _ _ r j).trans (Finset.sum_congr rfl fun k _ => ?_)
  exact congrArg₂ (fun a b : EReal => a * b) (kept m c t r k) (block2 m c t k j)

/-- The array that the run leaves. -/
theorem final_apply (i : Fin 32768) (j : Fin 1536) :
    (dats m 0 c).arrAt 3 cfg0.N (ix2 i j) = proj (X m c) (G m c) (W m c) i j := by
  have hN : cfg0.N = 64 := by decide
  let t : Fin cfg0.N := ⟨2 * (i.val / 1024) + j.val / 768, by omega⟩
  let r : Fin 1024 := ⟨i.val % 1024, by omega⟩
  let q : Fin 768 := ⟨j.val % 768, by omega⟩
  have f := at_point t
  have hd : t.val / 2 = i.val / 1024 := by show (2 * (i.val / 1024) + j.val / 768) / 2 = _; omega
  have hm : t.val % 2 = j.val / 768 := by show (2 * (i.val / 1024) + j.val / 768) % 2 = _; omega
  have w := congrFun (blocks3 m c t (flush0_3 t)) (ix2 r q)
  rw [flushed3] at w
  have w' : (dats m 0 c).arrAt 3 cfg0.N (((cfg0.win 3).blk t).view.emb (ix2 r q)) = (outsAt0 m c t.val t.isLt).1 (ix2 r q) := w
  have em : ((cfg0.win 3).blk t).view.emb (ix2 r q) = ix2 i j := by
    funext a; apply Fin.ext
    match a with
    | ⟨0, _⟩ => show win0_3.index t (0 : Fin 2) * 1024 + 1 * (i.val % 1024) = i.val; omega
    | ⟨1, _⟩ => show win0_3.index t (1 : Fin 2) * 768 + 1 * (j.val % 768) = j.val; omega
  rw [em] at w'
  rw [w', point_apply]
  exact congrArg₂ (proj (X m c) (G m c) (W m c)) (Fin.ext (by show 1024 * (t.val / 2) + i.val % 1024 = i.val; omega))
    (Fin.ext (by show 768 * (t.val % 2) + j.val % 768 = j.val; omega))

/-- The projection of the kernel's arguments, as an array. -/
def result : Buf (Elt Ideal) ((c.tc : Thread nD τ).loc main_v3) :=
  fun i => proj (X m c) (G m c) (W m c) (i 0) (i 1)

/-- The kernel's array is that. -/
theorem kernel_array : (dats m 0 c).arrAt 3 cfg0.N = result m c := by
  funext i
  exact (congrArg _ (coords i)).trans (final_apply m c (i 0) (i 1))

/-- The reference's array is the projection of its arguments. -/
theorem reference_apply (x : FVec Ideal S32768x1024 .f32) (g : FVec Ideal S1024 .f32) (w : FVec Ideal S1024x9504 .f32) (i : Fin 32768)
    (j : Fin 1536) :
    extractStridedSlice S32768x1536 ![0, 2592] (HostRows.product x g w) Cert.SwaReferenceIdeal.Gen.slices_S32768x9504_S32768x1536_0_2592 (ix2 i j)
      = proj (fun i k => x (ix2 i k)) (fun k => g (ix1 k)) (fun k (j : Fin 1536) => w (ix2 k ⟨2592 + j.val, by omega⟩)) i j := by
  have h := HostRows.product_apply x g w i ⟨2592 + j.val, by omega⟩
  generalize HostRows.product x g w = y at h
  pointwise
  exact h

/-- The kernel, its idealization and the reference run to the end and leave their arguments. -/
theorem frame_kernel : Cert.quiescent_Swa := fun m ρ _ => Cert.Swa.Gen.frame m ρ
theorem frame_ideal : Cert.quiescent_SwaIdeal := fun m ρ _ => Cert.SwaIdeal.Gen.frame m ρ
theorem frame_reference : Cert.quiescent_SwaReferenceIdeal := fun m ρ _ =>
  (θ_run Cert.SwaReferenceIdeal.defs _ _).mono (fun r h => ⟨fun c => (h c).2, sem_eq_zero_of_no_sems (by decide) r.2⟩)
    (Cert.SwaReferenceIdeal.Value.run (F := Ideal) m ρ)

/-- The idealized kernel is the kernel. -/
theorem preserves : Cert.preserves_Swa_SwaIdeal := trivial

/-- From arguments that agree both programs end at the projection, element by element. -/
theorem algebraic : Cert.algebraic_SwaIdeal_SwaReferenceIdeal := by
  intro m ρ m' ρ' _ hagree
  refine ⟨fun c => result m c, ?_, ?_⟩
  · exact (θ_run Cert.SwaIdeal.defs _ _).mono (fun _ h c => ⟨(h c).1.trans (kernel_array m c), (h c).2⟩)
      (Cert.SwaIdeal.Value.run_blocks (F := Ideal) m ρ)
  · refine (θ_run Cert.SwaReferenceIdeal.defs _ _).mono (fun r h c => ⟨(h c).1.trans ?_, (h c).2⟩)
      (Cert.SwaReferenceIdeal.Value.run (F := Ideal) m' ρ')
    rw [(hagree c).1, (hagree c).2.1, (hagree c).2.2]
    funext i
    exact (congrArg _ (coords i)).trans (reference_apply _ _ _ (i 0) (i 1))

end Cert.Proof.Swa
-- ==== Proof.Dil.lean ====
/- The projection to the dilated attention: the kernel's blocks, the array that its run leaves, the reference's, and the claims. -/
module

public import proofs.«01_k».proof.Defs
public import proofs.«01_k».proof.Proof.Rows
public import proofs.«01_k».proof.Proof.Gates
public import proofs.«01_k».proof.Proof.Gen.Dil.Frame
public import proofs.«01_k».proof.Proof.Gen.DilIdeal.Value
public import Idealize.ShloMosaic.Lib.StableHlo.ReadAt
public import Idealize.ShloMosaic.Lib.Pipeline.ValueKit

@[expose] public section

set_option maxRecDepth 16384

noncomputable section

namespace Cert.Proof.Dil

open Cert.DilIdeal Cert.DilIdeal.Gen Cert.DilIdeal.Value Idealize.ShloMosaic Idealize.ShloMosaic.StableHlo
open Idealize.ShloMosaic.TcCoe Idealize.SL.Sem Cert.Proof.Rows

/-- The product of the kept rows with a block of columns. -/
theorem product_apply (a : Vec Ideal S1024x1024 .bf16) (w : Vec Ideal S1024x768 .bf16) (r : Fin 1024) (j : Fin 768) :
    k0_pay2 a w (ix2 r j) = ∑ k : Fin 1024, (a (ix2 r k) : EReal) * (w (ix2 k j) : EReal) := by
  pointwise [k0_pay2]

variable (m : (ℓ : Loc nD τ sig) → Buf (Elt Ideal) ℓ) (c : Dev nD)

/-- At the first block of columns the body norms its rows, keeps them, and multiplies them by the block; -/
theorem first_point (t : Fin cfg0.N) (h : t.val % 3 = 0) :
    outsAt0 m c t.val t.isLt = (k0_pay2 (k0_pay1 (iblk m c 0 t) (iblk m c 1 t)) (iblk m c 2 t), k0_pay1 (iblk m c 0 t) (iblk m c 1 t)) := by
  rw [outsAt0_A m c t h]
  frame_out

/-- at the others it multiplies the rows kept before. -/
theorem next_point (t : Fin cfg0.N) (h : ¬ t.val % 3 = 0) :
    outsAt0 m c t.val t.isLt = (k0_pay2 (outsAt0 m c (t.val - 1) (Nat.lt_of_le_of_lt (Nat.sub_le _ _) t.isLt)).2 (iblk m c 2 t),
      (outsAt0 m c (t.val - 1) (Nat.lt_of_le_of_lt (Nat.sub_le _ _) t.isLt)).2) := by
  rw [outsAt0_B m c t h]
  frame_out
  exact congrArg₂ Prod.mk (congrArg (fun a => k0_pay2 a (iblk m c 2 t)) ((Memref.isWhole_whole _).read_unread _)) rfl

/-- The rows, -/
def X (i : Fin 32768) (k : Fin 1024) : EReal := m (c, Proc.tc.devRef main_arg0) (ix2 i k)
/-- the gains -/
def G (k : Fin 1024) : EReal := m (c, Proc.tc.devRef main_arg1) (ix1 k)
/-- and the columns of the weights. -/
def W (k : Fin 1024) (j : Fin 2304) : EReal := m (c, Proc.tc.devRef main_arg2) (ix2 k ⟨4128 + j.val, by omega⟩)

/-- The host's weights are those columns, -/
theorem weights (k : Fin 1024) (j : Fin 2304) : V m c main_v1 (ix2 k j) = W m c k j := by
  unfold V
  after_reads_at
  pointwise
  rfl

/-- and its gains the gains. -/
theorem gains (k : Fin 1024) : V m c main_v2 (ix2 0 k) = G m c k := by
  unfold V
  after_reads_at
  pointwise
  rfl

/-- Where the blocks of grid point `t` lie. -/
theorem at_point : ∀ t : Fin cfg0.N, win0_0.index t (0 : Fin 2) = t.val / 3 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 3
    ∧ win0_3.index t (0 : Fin 2) = t.val / 3 ∧ win0_3.index t (1 : Fin 2) = t.val % 3 :=
  (by decide +kernel : ∀ t : Fin grid0.N, _)

theorem lt_points (t : Fin cfg0.N) : t.val < 96 := lt_of_lt_of_le t.isLt (by decide)

variable (t : Fin cfg0.N)

theorem block0 (r k : Fin 1024) :
    iblk m c 0 t (ix2 r k) = X m c ⟨1024 * (t.val / 3) + r.val, by have := lt_points t; omega⟩ k := by
  have f := at_point t
  show V m c main_arg0 (((cfg0.win 0).blk t).view.emb (ix2 r k)) = _
  refine (congrFun (V_main_arg0 m c) _).trans (congrArg (m (c, Proc.tc.devRef main_arg0)) ?_)
  funext a; apply Fin.ext
  match a with
  | ⟨0, _⟩ => show win0_0.index t (0 : Fin 2) * 1024 + 1 * r.val = 1024 * (t.val / 3) + r.val; omega
  | ⟨1, _⟩ => show win0_0.index t (1 : Fin 2) * 1024 + 1 * k.val = k.val; omega

theorem block1 (k : Fin 1024) : iblk m c 1 t (ix2 0 k) = G m c k := by
  have f := at_point t
  refine Eq.trans (congrArg (V m c main_v2) ?_) (gains m c k)
  funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem block2 (k : Fin 1024) (j : Fin 768) :
    iblk m c 2 t (ix2 k j) = W m c k ⟨768 * (t.val % 3) + j.val, by omega⟩ := by
  have f := at_point t
  refine Eq.trans (congrArg (V m c main_v1) ?_) (weights m c k _)
  funext a; apply Fin.ext
  match a with
  | ⟨0, _⟩ => show win0_2.index t (0 : Fin 2) * 1024 + 1 * k.val = k.val; omega
  | ⟨1, _⟩ => show win0_2.index t (1 : Fin 2) * 768 + 1 * j.val = 768 * (t.val % 3) + j.val; omega

/-- The rows kept at grid point `t` are the normed rows of its row of blocks. -/
theorem kept (r k : Fin 1024) :
    (outsAt0 m c t.val t.isLt).2 (ix2 r k)
      = normRow (X m c ⟨1024 * (t.val / 3) + r.val, by have := lt_points t; omega⟩) (G m c) k := by
  refine carried (P := 3) (B := 32) (fun n h => (outsAt0 m c n h).2 (ix2 r k))
    (fun b hb => normRow (X m c ⟨1024 * b + r.val, by omega⟩) (G m c) k)
    (fun n h => by have := lt_points ⟨n, h⟩; dsimp only at this; omega) (fun n h h0 => ?_) (fun n h h0 => ?_) t.val t.isLt
  · rw [first_point m c ⟨n, h⟩ h0]
    refine (Gates.kept_apply _ _ r k).trans ?_
    rw [funext fun k => block0 m c ⟨n, h⟩ r k, funext fun k => block1 m c ⟨n, h⟩ k]
  · rw [next_point m c ⟨n, h⟩ h0]

/-- What grid point `t` leaves in its block of the array. -/
theorem point_apply (r : Fin 1024) (j : Fin 768) :
    (outsAt0 m c t.val t.isLt).1 (ix2 r j)
      = proj (X m c) (G m c) (W m c) ⟨1024 * (t.val / 3) + r.val, by have := lt_points t; omega⟩ ⟨768 * (t.val % 3) + j.val, by omega⟩ := by
  have e : (outsAt0 m c t.val t.isLt).1 = k0_pay2 (outsAt0 m c t.val t.isLt).2 (iblk m c 2 t) := by
    by_cases h : t.val % 3 = 0
    · rw [first_point m c t h]
    · rw [next_point m c t h]
  rw [e]
  refine (product_apply _ _ r j).trans (Finset.sum_congr rfl fun k _ => ?_)
  exact congrArg₂ (fun a b : EReal => a * b) (kept m c t r k) (block2 m c t k j)

/-- The array that the run leaves. -/
theorem final_apply (i : Fin 32768) (j : Fin 2304) :
    (dats m 0 c).arrAt 3 cfg0.N (ix2 i j) = proj (X m c) (G m c) (W m c) i j := by
  have hN : cfg0.N = 96 := by decide
  let t : Fin cfg0.N := ⟨3 * (i.val / 1024) + j.val / 768, by omega⟩
  let r : Fin 1024 := ⟨i.val % 1024, by omega⟩
  let q : Fin 768 := ⟨j.val % 768, by omega⟩
  have f := at_point t
  have hd : t.val / 3 = i.val / 1024 := by show (3 * (i.val / 1024) + j.val / 768) / 3 = _; omega
  have hm : t.val % 3 = j.val / 768 := by show (3 * (i.val / 1024) + j.val / 768) % 3 = _; omega
  have w := congrFun (blocks3 m c t (flush0_3 t)) (ix2 r q)
  rw [flushed3] at w
  have w' : (dats m 0 c).arrAt 3 cfg0.N (((cfg0.win 3).blk t).view.emb (ix2 r q)) = (outsAt0 m c t.val t.isLt).1 (ix2 r q) := w
  have em : ((cfg0.win 3).blk t).view.emb (ix2 r q) = ix2 i j := by
    funext a; apply Fin.ext
    match a with
    | ⟨0, _⟩ => show win0_3.index t (0 : Fin 2) * 1024 + 1 * (i.val % 1024) = i.val; omega
    | ⟨1, _⟩ => show win0_3.index t (1 : Fin 2) * 768 + 1 * (j.val % 768) = j.val; omega
  rw [em] at w'
  rw [w', point_apply]
  exact congrArg₂ (proj (X m c) (G m c) (W m c)) (Fin.ext (by show 1024 * (t.val / 3) + i.val % 1024 = i.val; omega))
    (Fin.ext (by show 768 * (t.val % 3) + j.val % 768 = j.val; omega))

/-- The projection of the kernel's arguments, as an array. -/
def result : Buf (Elt Ideal) ((c.tc : Thread nD τ).loc main_v3) :=
  fun i => proj (X m c) (G m c) (W m c) (i 0) (i 1)

/-- The kernel's array is that. -/
theorem kernel_array : (dats m 0 c).arrAt 3 cfg0.N = result m c := by
  funext i
  exact (congrArg _ (coords i)).trans (final_apply m c (i 0) (i 1))

/-- The reference's array is the projection of its arguments. -/
theorem reference_apply (x : FVec Ideal S32768x1024 .f32) (g : FVec Ideal S1024 .f32) (w : FVec Ideal S1024x9504 .f32) (i : Fin 32768)
    (j : Fin 2304) :
    extractStridedSlice S32768x2304 ![0, 4128] (HostRows.product x g w) Cert.DilReferenceIdeal.Gen.slices_S32768x9504_S32768x2304_0_4128 (ix2 i j)
      = proj (fun i k => x (ix2 i k)) (fun k => g (ix1 k)) (fun k (j : Fin 2304) => w (ix2 k ⟨4128 + j.val, by omega⟩)) i j := by
  have h := HostRows.product_apply x g w i ⟨4128 + j.val, by omega⟩
  generalize HostRows.product x g w = y at h
  pointwise
  exact h

/-- The kernel, its idealization and the reference run to the end and leave their arguments. -/
theorem frame_kernel : Cert.quiescent_Dil := fun m ρ _ => Cert.Dil.Gen.frame m ρ
theorem frame_ideal : Cert.quiescent_DilIdeal := fun m ρ _ => Cert.DilIdeal.Gen.frame m ρ
theorem frame_reference : Cert.quiescent_DilReferenceIdeal := fun m ρ _ =>
  (θ_run Cert.DilReferenceIdeal.defs _ _).mono (fun r h => ⟨fun c => (h c).2, sem_eq_zero_of_no_sems (by decide) r.2⟩)
    (Cert.DilReferenceIdeal.Value.run (F := Ideal) m ρ)

/-- The idealized kernel is the kernel. -/
theorem preserves : Cert.preserves_Dil_DilIdeal := trivial

/-- From arguments that agree both programs end at the projection, element by element. -/
theorem algebraic : Cert.algebraic_DilIdeal_DilReferenceIdeal := by
  intro m ρ m' ρ' _ hagree
  refine ⟨fun c => result m c, ?_, ?_⟩
  · exact (θ_run Cert.DilIdeal.defs _ _).mono (fun _ h c => ⟨(h c).1.trans (kernel_array m c), (h c).2⟩)
      (Cert.DilIdeal.Value.run_blocks (F := Ideal) m ρ)
  · refine (θ_run Cert.DilReferenceIdeal.defs _ _).mono (fun r h c => ⟨(h c).1.trans ?_, (h c).2⟩)
      (Cert.DilReferenceIdeal.Value.run (F := Ideal) m' ρ')
    rw [(hagree c).1, (hagree c).2.1, (hagree c).2.2]
    funext i
    exact (congrArg _ (coords i)).trans (reference_apply _ _ _ (i 0) (i 1))

end Cert.Proof.Dil
-- ==== Proof.Mixer.lean ====
/- The end of the mixers: three products weighed by the gates and added up, a product and the residual. The kernel's blocks,
   the array that its run leaves, the reference's, and the claims. -/
module

public import proofs.«01_k».proof.Defs
public import proofs.«01_k».proof.Proof.Rows
public import proofs.«01_k».proof.Proof.Gen.Mixer.Frame
public import proofs.«01_k».proof.Proof.Gen.MixerIdeal.Value
public import proofs.«01_k».proof.Proof.Gen.MixerReferenceIdeal.Run
public import Idealize.ShloMosaic.Lib.Pointwise.IndexVar
public import Idealize.ShloMosaic.Lib.StableHlo.ReadAt
public import Idealize.ShloMosaic.Lib.Pipeline.ValueKit

@[expose] public section

set_option maxRecDepth 16384

noncomputable section

namespace Cert.Proof.Mixer

open Cert.MixerIdeal Cert.MixerIdeal.Gen Cert.MixerIdeal.Value Idealize.ShloMosaic Idealize.ShloMosaic.StableHlo
open Idealize.ShloMosaic.TcCoe Idealize.SL.Sem Cert.Proof.Rows

/-- An element of a row's sum of the three branches, each times its gate; -/
def merged (ya yb : Fin 1024 → EReal) (yc : Fin 256 → EReal) (z : Fin 3072 → EReal) (wa wb : Fin 1024 → Fin 1024 → EReal)
    (wc : Fin 256 → Fin 1024 → EReal) (l : Fin 1024) : EReal :=
  Ideal.logistic (z ⟨l.val, by omega⟩) * (∑ k, ya k * wa k l) + Ideal.logistic (z ⟨1024 + l.val, by omega⟩) * (∑ k, yb k * wb k l)
    + Ideal.logistic (z ⟨2048 + l.val, by omega⟩) * (∑ k, yc k * wc k l)

/-- and an element of the row's end, from that sum `s`: its product with the last weights on top of the residual. -/
def ended (x : Fin 1024 → EReal) (s : Fin 1024 → EReal) (wo : Fin 1024 → Fin 1024 → EReal) (j : Fin 1024) : EReal :=
  x j + ∑ l, s l * wo l j

/-- The kernel's block at an element. -/
theorem block_apply (z : Vec Ideal S512x3072 .f32) (ya : Vec Ideal S512x1024 .f32) (wa : Vec Ideal S1024x1024 .bf16)
    (yb : Vec Ideal S512x1024 .f32) (wb : Vec Ideal S1024x1024 .bf16) (yc : Vec Ideal S512x256 .f32) (wc : Vec Ideal S256x1024 .bf16)
    (x : Vec Ideal S512x1024 .f32) (wo : Vec Ideal S1024x1024 .bf16) (r : Fin 512) (j : Fin 1024) :
    k0_pay1 z ya wa yb wb yc wc x wo (ix2 r j)
      = ended (fun j => x (ix2 r j))
          (merged (fun k => ya (ix2 r k)) (fun k => yb (ix2 r k)) (fun k => yc (ix2 r k)) (fun k => z (ix2 r k))
            (fun k j => wa (ix2 k j)) (fun k j => wb (ix2 k j)) (fun k j => wc (ix2 k j)))
          (fun k j => wo (ix2 k j)) j := by
  pointwise [k0_pay1]
  rfl

variable (m : (ℓ : Loc nD τ sig) → Buf (Elt Ideal) ℓ) (c : Dev nD)

/-- The arguments, as functions of their indices. -/
def X (i : Fin 32768) (j : Fin 1024) : EReal := m (c, Proc.tc.devRef main_arg0) (ix2 i j)
def YA (i : Fin 32768) (k : Fin 1024) : EReal := m (c, Proc.tc.devRef main_arg1) (ix2 i k)
def YB (i : Fin 32768) (k : Fin 1024) : EReal := m (c, Proc.tc.devRef main_arg2) (ix2 i k)
def YC (i : Fin 32768) (k : Fin 256) : EReal := m (c, Proc.tc.devRef main_arg3) (ix2 i k)
def Z (i : Fin 32768) (k : Fin 3072) : EReal := m (c, Proc.tc.devRef main_arg4) (ix2 i k)
def WA (k j : Fin 1024) : EReal := m (c, Proc.tc.devRef main_arg5) (ix2 k j)
def WB (k j : Fin 1024) : EReal := m (c, Proc.tc.devRef main_arg6) (ix2 k j)
def WC (k : Fin 256) (j : Fin 1024) : EReal := m (c, Proc.tc.devRef main_arg7) (ix2 k j)
def WO (k j : Fin 1024) : EReal := m (c, Proc.tc.devRef main_arg8) (ix2 k j)

/-- The host's weights are the weights. -/
theorem weightsA (k j : Fin 1024) : V m c main_v0 (ix2 k j) = WA m c k j := by
  unfold V
  after_reads_at
  pointwise
  rfl

theorem weightsB (k j : Fin 1024) : V m c main_v1 (ix2 k j) = WB m c k j := by
  unfold V
  after_reads_at
  pointwise
  rfl

theorem weightsC (k : Fin 256) (j : Fin 1024) : V m c main_v2 (ix2 k j) = WC m c k j := by
  unfold V
  after_reads_at
  pointwise
  rfl

theorem weightsO (k j : Fin 1024) : V m c main_v3 (ix2 k j) = WO m c k j := by
  unfold V
  after_reads_at
  pointwise
  rfl

/-- Where the blocks of grid point `t` lie: the rows' at `t`, -/
theorem at_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_9.index t (0 : Fin 2) = t.val ∧ win0_9.index t (1 : Fin 2) = 0 :=
  (by decide +kernel : ∀ t : Fin grid0.N, _)

/-- the weights' at the start. -/
theorem at_weights : ∀ t : Fin cfg0.N, win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem lt_points (t : Fin cfg0.N) : t.val < 64 := lt_of_lt_of_le t.isLt (by decide)

variable (t : Fin cfg0.N)

/-- Row `r` of grid point `t`. -/
def rowAt (r : Fin 512) : Fin 32768 := ⟨512 * t.val + r.val, by have := lt_points t; omega⟩

theorem block0 (r : Fin 512) (k : Fin 1024) : iblk m c 0 t (ix2 r k) = X m c (rowAt t r) k := by
  have f := at_rows t
  show V m c main_arg0 (((cfg0.win 0).blk t).view.emb (ix2 r k)) = _
  refine (congrFun (V_main_arg0 m c) _).trans (congrArg (m (c, Proc.tc.devRef main_arg0)) ?_)
  funext a; apply Fin.ext
  match a with
  | ⟨0, _⟩ => show win0_0.index t (0 : Fin 2) * 512 + 1 * r.val = 512 * t.val + r.val; omega
  | ⟨1, _⟩ => show win0_0.index t (1 : Fin 2) * 1024 + 1 * k.val = k.val; omega

theorem block1 (r : Fin 512) (k : Fin 1024) : iblk m c 1 t (ix2 r k) = YA m c (rowAt t r) k := by
  have f := at_rows t
  show V m c main_arg1 (((cfg0.win 1).blk t).view.emb (ix2 r k)) = _
  refine (congrFun (V_main_arg1 m c) _).trans (congrArg (m (c, Proc.tc.devRef main_arg1)) ?_)
  funext a; apply Fin.ext
  match a with
  | ⟨0, _⟩ => show win0_1.index t (0 : Fin 2) * 512 + 1 * r.val = 512 * t.val + r.val; omega
  | ⟨1, _⟩ => show win0_1.index t (1 : Fin 2) * 1024 + 1 * k.val = k.val; omega

theorem block2 (r : Fin 512) (k : Fin 1024) : iblk m c 2 t (ix2 r k) = YB m c (rowAt t r) k := by
  have f := at_rows t
  show V m c main_arg2 (((cfg0.win 2).blk t).view.emb (ix2 r k)) = _
  refine (congrFun (V_main_arg2 m c) _).trans (congrArg (m (c, Proc.tc.devRef main_arg2)) ?_)
  funext a; apply Fin.ext
  match a with
  | ⟨0, _⟩ => show win0_2.index t (0 : Fin 2) * 512 + 1 * r.val = 512 * t.val + r.val; omega
  | ⟨1, _⟩ => show win0_2.index t (1 : Fin 2) * 1024 + 1 * k.val = k.val; omega

theorem block3 (r : Fin 512) (k : Fin 256) : iblk m c 3 t (ix2 r k) = YC m c (rowAt t r) k := by
  have f := at_rows t
  show V m c main_arg3 (((cfg0.win 3).blk t).view.emb (ix2 r k)) = _
  refine (congrFun (V_main_arg3 m c) _).trans (congrArg (m (c, Proc.tc.devRef main_arg3)) ?_)
  funext a; apply Fin.ext
  match a with
  | ⟨0, _⟩ => show win0_3.index t (0 : Fin 2) * 512 + 1 * r.val = 512 * t.val + r.val; omega
  | ⟨1, _⟩ => show win0_3.index t (1 : Fin 2) * 256 + 1 * k.val = k.val; omega

theorem block4 (r : Fin 512) (k : Fin 3072) : iblk m c 4 t (ix2 r k) = Z m c (rowAt t r) k := by
  have f := at_rows t
  show V m c main_arg4 (((cfg0.win 4).blk t).view.emb (ix2 r k)) = _
  refine (congrFun (V_main_arg4 m c) _).trans (congrArg (m (c, Proc.tc.devRef main_arg4)) ?_)
  funext a; apply Fin.ext
  match a with
  | ⟨0, _⟩ => show win0_4.index t (0 : Fin 2) * 512 + 1 * r.val = 512 * t.val + r.val; omega
  | ⟨1, _⟩ => show win0_4.index t (1 : Fin 2) * 3072 + 1 * k.val = k.val; omega

theorem block5 (k j : Fin 1024) : iblk m c 5 t (ix2 k j) = WA m c k j := by
  have f := at_weights t
  refine Eq.trans (congrArg (V m c main_v0) ?_) (weightsA m c k j)
  funext a; apply Fin.ext
  match a with
  | ⟨0, _⟩ => show win0_5.index t (0 : Fin 2) * 1024 + 1 * k.val = k.val; omega
  | ⟨1, _⟩ => show win0_5.index t (1 : Fin 2) * 1024 + 1 * j.val = j.val; omega

theorem block6 (k j : Fin 1024) : iblk m c 6 t (ix2 k j) = WB m c k j := by
  have f := at_weights t
  refine Eq.trans (congrArg (V m c main_v1) ?_) (weightsB m c k j)
  funext a; apply Fin.ext
  match a with
  | ⟨0, _⟩ => show win0_6.index t (0 : Fin 2) * 1024 + 1 * k.val = k.val; omega
  | ⟨1, _⟩ => show win0_6.index t (1 : Fin 2) * 1024 + 1 * j.val = j.val; omega

theorem block7 (k : Fin 256) (j : Fin 1024) : iblk m c 7 t (ix2 k j) = WC m c k j := by
  have f := at_weights t
  refine Eq.trans (congrArg (V m c main_v2) ?_) (weightsC m c k j)
  funext a; apply Fin.ext
  match a with
  | ⟨0, _⟩ => show win0_7.index t (0 : Fin 2) * 256 + 1 * k.val = k.val; omega
  | ⟨1, _⟩ => show win0_7.index t (1 : Fin 2) * 1024 + 1 * j.val = j.val; omega

theorem block8 (k j : Fin 1024) : iblk m c 8 t (ix2 k j) = WO m c k j := by
  have f := at_weights t
  refine Eq.trans (congrArg (V m c main_v3) ?_) (weightsO m c k j)
  funext a; apply Fin.ext
  match a with
  | ⟨0, _⟩ => show win0_8.index t (0 : Fin 2) * 1024 + 1 * k.val = k.val; omega
  | ⟨1, _⟩ => show win0_8.index t (1 : Fin 2) * 1024 + 1 * j.val = j.val; omega

/-- The layer's element of the arguments. -/
def mixed (i : Fin 32768) (j : Fin 1024) : EReal :=
  ended (X m c i) (merged (YA m c i) (YB m c i) (YC m c i) (Z m c i) (WA m c) (WB m c) (WC m c)) (WO m c) j

/-- What grid point `t` leaves in its block is one payload; -/
theorem point_out : out0_9 (iblk m c 0 t) (iblk m c 1 t) (iblk m c 2 t) (iblk m c 3 t) (iblk m c 4 t) (iblk m c 5 t) (iblk m c 6 t)
      (iblk m c 7 t) (iblk m c 8 t)
    = k0_pay1 (iblk m c 4 t) (iblk m c 1 t) (iblk m c 5 t) (iblk m c 2 t) (iblk m c 6 t) (iblk m c 3 t) (iblk m c 7 t) (iblk m c 0 t)
        (iblk m c 8 t) := by
  frame_out

/-- an element of it is the layer's. -/
theorem point_apply (r : Fin 512) (j : Fin 1024) :
    k0_pay1 (iblk m c 4 t) (iblk m c 1 t) (iblk m c 5 t) (iblk m c 2 t) (iblk m c 6 t) (iblk m c 3 t) (iblk m c 7 t) (iblk m c 0 t)
        (iblk m c 8 t) (ix2 r j) = mixed m c (rowAt t r) j := by
  refine (block_apply _ _ _ _ _ _ _ _ _ r j).trans ?_
  rw [funext fun k => block0 m c t r k, funext fun k => block1 m c t r k, funext fun k => block2 m c t r k,
    funext fun k => block3 m c t r k, funext fun k => block4 m c t r k, funext fun k => funext fun j => block5 m c t k j,
    funext fun k => funext fun j => block6 m c t k j, funext fun k => funext fun j => block7 m c t k j,
    funext fun k => funext fun j => block8 m c t k j]
  rfl

/-- The array that the run leaves. -/
theorem final_apply (i : Fin 32768) (j : Fin 1024) : (dats m 0 c).arrAt 9 cfg0.N (ix2 i j) = mixed m c i j := by
  have hN : cfg0.N = 64 := by decide
  let t : Fin cfg0.N := ⟨i.val / 512, by omega⟩
  let r : Fin 512 := ⟨i.val % 512, by omega⟩
  have f := at_rows t
  have w := congrFun (blocks9 m c t (flush0_9 t)) (ix2 r j)
  rw [flushed9, point_out] at w
  have w' : (dats m 0 c).arrAt 9 cfg0.N (((cfg0.win 9).blk t).view.emb (ix2 r j))
      = k0_pay1 (iblk m c 4 t) (iblk m c 1 t) (iblk m c 5 t) (iblk m c 2 t) (iblk m c 6 t) (iblk m c 3 t) (iblk m c 7 t) (iblk m c 0 t)
        (iblk m c 8 t) (ix2 r j) := w
  have hd : t.val = i.val / 512 := rfl
  have em : ((cfg0.win 9).blk t).view.emb (ix2 r j) = ix2 i j := by
    funext a; apply Fin.ext
    match a with
    | ⟨0, _⟩ => show win0_9.index t (0 : Fin 2) * 512 + 1 * (i.val % 512) = i.val; omega
    | ⟨1, _⟩ => show win0_9.index t (1 : Fin 2) * 1024 + 1 * j.val = j.val; omega
  rw [em] at w'
  rw [w', point_apply]
  exact congrArg (mixed m c · j) (Fin.ext (by show 512 * (i.val / 512) + i.val % 512 = i.val; omega))

/-- The layer's elements, as an array. -/
def result : Buf (Elt Ideal) ((c.tc : Thread nD τ).loc main_v4) := fun i => mixed m c (i 0) (i 1)

/-- The kernel's array is that. -/
theorem kernel_array : (dats m 0 c).arrAt 9 cfg0.N = result m c := by
  funext i
  exact (congrArg _ (coords i)).trans (final_apply m c (i 0) (i 1))

section Reference

open Cert.MixerReferenceIdeal Cert.MixerReferenceIdeal.Gen

/-- The gates as the reference writes them. -/
def gates (z : FVec Ideal Cert.MixerReferenceIdeal.S32768x3072 .f32) : FVec Ideal Cert.MixerReferenceIdeal.S32768x3072 .f32 :=
  Host.divf (broadcastInDim Cert.MixerReferenceIdeal.S32768x3072 ![] bcast_S_S32768x3072 (constant Cert.MixerReferenceIdeal.S_ .f32 0x3F800000#32)) (addf (broadcastInDim Cert.MixerReferenceIdeal.S32768x3072 ![] bcast_S_S32768x3072 (constant Cert.MixerReferenceIdeal.S_ .f32 0x3F800000#32)) (Host.exp (Host.negf z)))

theorem gates_apply (z : FVec Ideal Cert.MixerReferenceIdeal.S32768x3072 .f32) (i : Fin 32768) (k : Fin 3072) :
    gates z (ix2 i k) = Ideal.logistic (z (ix2 i k)) := by
  pointwise [gates]
  rfl

/-- The sum of the three branches as the reference writes it, from its gates `g`. -/
def branches (g : FVec Ideal Cert.MixerReferenceIdeal.S32768x3072 .f32) (ya yb : FVec Ideal Cert.MixerReferenceIdeal.S32768x1024 .f32)
    (yc : FVec Ideal Cert.MixerReferenceIdeal.S32768x256 .f32) (wa wb : FVec Ideal Cert.MixerReferenceIdeal.S1024x1024 .f32)
    (wc : FVec Ideal Cert.MixerReferenceIdeal.S256x1024 .f32) : FVec Ideal Cert.MixerReferenceIdeal.S32768x1024 .f32 :=
  addf (addf
      (mulf (shapeCast _ (extractStridedSlice S32768x1x1024 ![0, 0, 0] (shapeCast _ g shapeCasts_S32768x3072_S32768x3x1024) slices_S32768x3x1024_S32768x1x1024_0_0_0) shapeCasts_S32768x1x1024_S32768x1024)
        (Host.dotGeneral dot_S32768x1024_S1024x1024_S32768x1024_1_0_0_1_n_n none ya wa))
      (mulf (shapeCast _ (extractStridedSlice S32768x1x1024 ![0, 1, 0] (shapeCast _ g shapeCasts_S32768x3072_S32768x3x1024) slices_S32768x3x1024_S32768x1x1024_0_1_0) shapeCasts_S32768x1x1024_S32768x1024)
        (Host.dotGeneral dot_S32768x1024_S1024x1024_S32768x1024_1_0_0_1_n_n none yb wb)))
    (mulf (shapeCast _ (extractStridedSlice S32768x1x1024 ![0, 2, 0] (shapeCast _ g shapeCasts_S32768x3072_S32768x3x1024) slices_S32768x3x1024_S32768x1x1024_0_2_0) shapeCasts_S32768x1x1024_S32768x1024)
      (Host.dotGeneral dot_S32768x256_S256x1024_S32768x1024_1_0_0_1_n_n none yc wc))

theorem branches_apply (z : FVec Ideal Cert.MixerReferenceIdeal.S32768x3072 .f32) (ya yb : FVec Ideal Cert.MixerReferenceIdeal.S32768x1024 .f32)
    (yc : FVec Ideal Cert.MixerReferenceIdeal.S32768x256 .f32) (wa wb : FVec Ideal Cert.MixerReferenceIdeal.S1024x1024 .f32)
    (wc : FVec Ideal Cert.MixerReferenceIdeal.S256x1024 .f32) (i : Fin 32768) (l : Fin 1024) :
    branches (gates z) ya yb yc wa wb wc (ix2 i l)
      = merged (fun k => ya (ix2 i k)) (fun k => yb (ix2 i k)) (fun k => yc (ix2 i k)) (fun k => z (ix2 i k))
            (fun k j => wa (ix2 k j)) (fun k j => wb (ix2 k j)) (fun k j => wc (ix2 k j)) l := by
  have h (k : Fin 3072) := gates_apply z i k
  unfold merged
  simp only [← h]
  generalize gates z = g
  pointwise [branches]

/-- The reference's array is the layer's element of its arguments. -/
theorem reference_apply (x : FVec Ideal Cert.MixerReferenceIdeal.S32768x1024 .f32) (s : FVec Ideal Cert.MixerReferenceIdeal.S32768x1024 .f32)
    (wo : FVec Ideal Cert.MixerReferenceIdeal.S1024x1024 .f32) (i : Fin 32768) (j : Fin 1024) :
    addf x (Host.dotGeneral dot_S32768x1024_S1024x1024_S32768x1024_1_0_0_1_n_n none s wo) (ix2 i j)
      = ended (fun j => x (ix2 i j)) (fun l => s (ix2 i l)) (fun k j => wo (ix2 k j)) j := by
  pointwise
  rfl

end Reference

/-- The kernel, its idealization and the reference run to the end and leave their arguments. -/
theorem frame_kernel : Cert.quiescent_Mixer := fun m ρ _ => Cert.Mixer.Gen.frame m ρ
theorem frame_ideal : Cert.quiescent_MixerIdeal := fun m ρ _ => Cert.MixerIdeal.Gen.frame m ρ
theorem frame_reference : Cert.quiescent_MixerReferenceIdeal := fun m ρ _ =>
  (θ_run Cert.MixerReferenceIdeal.defs _ _).mono (fun r h => ⟨fun c => (h c).2, sem_eq_zero_of_no_sems (by decide) r.2⟩)
    (Cert.MixerReferenceIdeal.Value.run (F := Ideal) m ρ)

/-- The idealized kernel is the kernel. -/
theorem preserves : Cert.preserves_Mixer_MixerIdeal := trivial

/-- From arguments that agree both programs end at the layer's elements. -/
theorem algebraic : Cert.algebraic_MixerIdeal_MixerReferenceIdeal := by
  intro m ρ m' ρ' _ hagree
  refine ⟨fun c => result m c, ?_, ?_⟩
  · exact (θ_run Cert.MixerIdeal.defs _ _).mono (fun _ h c => ⟨(h c).1.trans (kernel_array m c), (h c).2⟩)
      (Cert.MixerIdeal.Value.run_blocks (F := Ideal) m ρ)
  · refine (θ_run Cert.MixerReferenceIdeal.defs _ _).mono (fun r h c => ⟨(h c).1.trans ?_, (h c).2⟩)
      (Cert.MixerReferenceIdeal.Value.run (F := Ideal) m' ρ')
    obtain ⟨h0, h1, h2, h3, h4, h5, h6, h7, h8⟩ := hagree c
    rw [h0, h1, h2, h3, h4, h5, h6, h7, h8]
    funext i
    refine (congrArg _ (coords i)).trans ((reference_apply _ _ _ (i 0) (i 1)).trans ?_)
    exact congrArg (fun s => ended (X m c (i 0)) s (WO m c) (i 1)) (funext fun l => branches_apply _ _ _ _ _ _ _ (i 0) l)

end Cert.Proof.Mixer
-- ==== Proof.Merge.lean ====
/- The end of the dilated attention: three groups of heads, weighed by a softmax over their log-sums. The kernel's array, the
   reference's, and the claims. -/
module

public import proofs.«01_k».proof.Defs
public import proofs.«01_k».proof.Proof.Rows
public import proofs.«01_k».proof.Proof.Gen.Merge.Frame
public import proofs.«01_k».proof.Proof.Gen.MergeIdeal.Frame
public import proofs.«01_k».proof.Proof.Gen.MergeReferenceIdeal.Run
public import Idealize.ShloMosaic.Lib.Pipeline.Value
public import Idealize.ShloMosaic.Lib.Pipeline.ValueKit
public import Idealize.ShloMosaic.Lib.Pointwise.IndexVar
public import Idealize.ShloMosaic.Lib.StableHlo.ReadAt

@[expose] public section

set_option maxRecDepth 16384

noncomputable section

namespace Cert.Proof.Merge

open Cert.MergeIdeal Cert.MergeIdeal.Gen Idealize.ShloMosaic Idealize.ShloMosaic.StableHlo
open Idealize.ShloMosaic.TcCoe Idealize.SL.Sem Cert.Proof.Rows

/-- An element of three groups' merger: the softmax of the log-sums `l`, times the elements `o`, added up. -/
def weighed (l o : Fin 3 → EReal) : EReal :=
  let top := max (max (l 0) (l 1)) (l 2)
  let e := fun a => Ideal.exp (l a - top)
  let d := e 0 + e 1 + e 2
  Ideal.div (e 0) d * o 0 + Ideal.div (e 1) d * o 1 + Ideal.div (e 2) d * o 2

/-- The kernel's block at an element. -/
theorem block_apply (la lb lc oa ob oc : Vec Ideal S1024x256 .f32) (i : S1024x256.Idx) :
    k0_pay1 la lb lc oa ob oc i = weighed ![la i, lb i, lc i] ![oa i, ob i, oc i] := rfl

variable (m : (ℓ : Loc nD τ sig) → Buf (Elt Ideal) ℓ) (c : Dev nD) (t : Fin cfg0.N)

/-- What grid point `t` leaves in its block is one payload; -/
theorem point_out : out0_6 (iblk m c 0 t) (iblk m c 1 t) (iblk m c 2 t) (iblk m c 3 t) (iblk m c 4 t) (iblk m c 5 t)
    = k0_pay1 (iblk m c 3 t) (iblk m c 4 t) (iblk m c 5 t) (iblk m c 0 t) (iblk m c 1 t) (iblk m c 2 t) := by
  frame_out

/-- and that is what it writes back. -/
theorem flushed : (dats m 0 c).flushed 6 t = (cfg0.win 6).cut (grid0.coords t)
    (k0_pay1 (iblk m c 3 t) (iblk m c 4 t) (iblk m c 5 t) (iblk m c 0 t) (iblk m c 1 t) (iblk m c 2 t)) := by
  rw [← point_out]
  show (cfg0.win 6).cut (grid0.coords t) ((dats m 0 c).after 6 t) = _
  rw [after0_6]

/-- No two grid points write the same block. -/
theorem apart (t t' : Fin cfg0.N) (_ : (cfg0.win 6).flush t = true) (_ : (cfg0.win 6).flush t' = true) (h : t ≠ t') :
    Disjoint ((cfg0.win 6).blk t).view.set ((cfg0.win 6).blk t').view.set :=
  (cfg0.win 6).disjoint_blk fun e =>
    h ((by decide +kernel : ∀ t t' : Fin grid0.N, win0_6.index t = win0_6.index t' → t = t') t t' e)

/-- Where the blocks of grid point `t` lie. -/
theorem at_point : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem lt_points (t : Fin cfg0.N) : t.val < 32 := lt_of_lt_of_le t.isLt (by decide)

/-- Row `r` of grid point `t`. -/
def rowAt (r : Fin 1024) : Fin 32768 := ⟨1024 * t.val + r.val, by have := lt_points t; omega⟩

/-- An index whose coordinates lie in the block of grid point `t`. -/
theorem index_eq (i : S32768x256.Idx) (a b : ℕ) (r : Fin 1024) (j : Fin 256) (ha : a = t.val) (hb : b = 0)
    (h0 : (i 0).val = a * 1024 + 1 * r.val) (h1 : (i 1).val = b * 256 + 1 * j.val) : i = ix2 (rowAt t r) j := by
  funext d; apply Fin.ext
  match d with
  | ⟨0, _⟩ => refine h0.trans ?_; show a * 1024 + 1 * r.val = 1024 * t.val + r.val; omega
  | ⟨1, _⟩ => refine h1.trans ?_; show b * 256 + 1 * j.val = j.val; omega

/-- The blocks are the arguments' rows. -/
theorem block0 (r : Fin 1024) (j : Fin 256) : iblk m c 0 t (ix2 r j) = m (c, Proc.tc.devRef main_arg0) (ix2 (rowAt t r) j) := by
  obtain ⟨h, h', -⟩ := at_point t
  show V m c main_arg0 (((cfg0.win 0).blk t).view.emb (ix2 r j)) = _
  exact (congrFun (V_main_arg0 m c) _).trans (congrArg (m (c, Proc.tc.devRef main_arg0)) (index_eq t _ _ _ r j h h' rfl rfl))

theorem block1 (r : Fin 1024) (j : Fin 256) : iblk m c 1 t (ix2 r j) = m (c, Proc.tc.devRef main_arg1) (ix2 (rowAt t r) j) := by
  obtain ⟨-, -, h, h', -⟩ := at_point t
  show V m c main_arg1 (((cfg0.win 1).blk t).view.emb (ix2 r j)) = _
  exact (congrFun (V_main_arg1 m c) _).trans (congrArg (m (c, Proc.tc.devRef main_arg1)) (index_eq t _ _ _ r j h h' rfl rfl))

theorem block2 (r : Fin 1024) (j : Fin 256) : iblk m c 2 t (ix2 r j) = m (c, Proc.tc.devRef main_arg2) (ix2 (rowAt t r) j) := by
  obtain ⟨-, -, -, -, h, h', -⟩ := at_point t
  show V m c main_arg2 (((cfg0.win 2).blk t).view.emb (ix2 r j)) = _
  exact (congrFun (V_main_arg2 m c) _).trans (congrArg (m (c, Proc.tc.devRef main_arg2)) (index_eq t _ _ _ r j h h' rfl rfl))

theorem block3 (r : Fin 1024) (j : Fin 256) : iblk m c 3 t (ix2 r j) = m (c, Proc.tc.devRef main_arg3) (ix2 (rowAt t r) j) := by
  obtain ⟨-, -, -, -, -, -, h, h', -⟩ := at_point t
  show V m c main_arg3 (((cfg0.win 3).blk t).view.emb (ix2 r j)) = _
  exact (congrFun (V_main_arg3 m c) _).trans (congrArg (m (c, Proc.tc.devRef main_arg3)) (index_eq t _ _ _ r j h h' rfl rfl))

theorem block4 (r : Fin 1024) (j : Fin 256) : iblk m c 4 t (ix2 r j) = m (c, Proc.tc.devRef main_arg4) (ix2 (rowAt t r) j) := by
  obtain ⟨-, -, -, -, -, -, -, -, h, h', -⟩ := at_point t
  show V m c main_arg4 (((cfg0.win 4).blk t).view.emb (ix2 r j)) = _
  exact (congrFun (V_main_arg4 m c) _).trans (congrArg (m (c, Proc.tc.devRef main_arg4)) (index_eq t _ _ _ r j h h' rfl rfl))

theorem block5 (r : Fin 1024) (j : Fin 256) : iblk m c 5 t (ix2 r j) = m (c, Proc.tc.devRef main_arg5) (ix2 (rowAt t r) j) := by
  obtain ⟨-, -, -, -, -, -, -, -, -, -, h, h', -⟩ := at_point t
  show V m c main_arg5 (((cfg0.win 5).blk t).view.emb (ix2 r j)) = _
  exact (congrFun (V_main_arg5 m c) _).trans (congrArg (m (c, Proc.tc.devRef main_arg5)) (index_eq t _ _ _ r j h h' rfl rfl))

/-- The merger of six arrays at an element. -/
def mergedAt (oa ob oc la lb lc : S32768x256.Idx → EReal) (i : S32768x256.Idx) : EReal :=
  weighed ![la i, lb i, lc i] ![oa i, ob i, oc i]

/-- The kernel's arguments' merger. -/
def result : Buf (Elt Ideal) ((c.tc : Thread nD τ).loc main_v0) :=
  mergedAt (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))

/-- The array that the run leaves. -/
theorem final_apply (i : Fin 32768) (j : Fin 256) : (dats m 0 c).arrAt 6 cfg0.N (ix2 i j) = result m c (ix2 i j) := by
  have hN : cfg0.N = 32 := by decide
  let t : Fin cfg0.N := ⟨i.val / 1024, by omega⟩
  let r : Fin 1024 := ⟨i.val % 1024, by omega⟩
  have hi : rowAt t r = i := Fin.ext (by show 1024 * (i.val / 1024) + i.val % 1024 = i.val; omega)
  have w := congrFun ((dats m 0 c).read_blk_arrAt_eq_flushed 6 apart cfg0.N t t.isLt (flush0_6 t)) (ix2 r j)
  rw [flushed] at w
  have w' : (dats m 0 c).arrAt 6 cfg0.N (((cfg0.win 6).blk t).view.emb (ix2 r j))
      = k0_pay1 (iblk m c 3 t) (iblk m c 4 t) (iblk m c 5 t) (iblk m c 0 t) (iblk m c 1 t) (iblk m c 2 t) (ix2 r j) := w
  have em : ((cfg0.win 6).blk t).view.emb (ix2 r j) = ix2 (rowAt t r) j := by
    obtain ⟨-, -, -, -, -, -, -, -, -, -, -, -, h, h'⟩ := at_point t
    exact index_eq t _ _ _ r j h h' rfl rfl
  rw [em, hi] at w'
  rw [w', block_apply, block0, block1, block2, block3, block4, block5, hi]
  rfl

theorem kernel_array : (dats m 0 c).arrAt 6 cfg0.N = result m c := by
  funext i
  rw [coords i]
  exact final_apply m c (i 0) (i 1)

/-- Every run of the kernel leaves that array and its arguments. -/
theorem run_kernel (ρ : Dev nD → PrngReg) :
    θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run_main m ρ)
  have g := (h c).1
  exact ⟨(g 6).trans (kernel_array m c), (g 0).trans (((dats m 0 c).arrAt_in 0 rfl _).trans ((A_eq m c 0).trans (V_main_arg0 m c))),
    (g 1).trans (((dats m 0 c).arrAt_in 1 rfl _).trans ((A_eq m c 1).trans (V_main_arg1 m c))),
    (g 2).trans (((dats m 0 c).arrAt_in 2 rfl _).trans ((A_eq m c 2).trans (V_main_arg2 m c))),
    (g 3).trans (((dats m 0 c).arrAt_in 3 rfl _).trans ((A_eq m c 3).trans (V_main_arg3 m c))),
    (g 4).trans (((dats m 0 c).arrAt_in 4 rfl _).trans ((A_eq m c 4).trans (V_main_arg4 m c))),
    (g 5).trans (((dats m 0 c).arrAt_in 5 rfl _).trans ((A_eq m c 5).trans (V_main_arg5 m c)))⟩

section Reference

open Cert.MergeReferenceIdeal Cert.MergeReferenceIdeal.Gen Cert.MergeReferenceIdeal.Value

/-- Three arrays, stacked as the reference stacks them. -/
def stacked (x y z : FVec Ideal Cert.MergeReferenceIdeal.S32768x256 .f32) : FVec Ideal S3x32768x256 .f32 :=
  concatenate S3x32768x256 0 [⟨S1x32768x256, broadcastInDim S1x32768x256 ![1, 2] bcast_S32768x256_S1x32768x256_1_2 x⟩,
    ⟨S1x32768x256, broadcastInDim S1x32768x256 ![1, 2] bcast_S32768x256_S1x32768x256_1_2 y⟩,
    ⟨S1x32768x256, broadcastInDim S1x32768x256 ![1, 2] bcast_S32768x256_S1x32768x256_1_2 z⟩]
    concatenates_S1x32768x256_S1x32768x256_S1x32768x256_S3x32768x256_d0

/-- One array, spread over a stack. -/
def spread (x : FVec Ideal Cert.MergeReferenceIdeal.S32768x256 .f32) : FVec Ideal S3x32768x256 .f32 :=
  broadcastInDim S3x32768x256 ![0, 1, 2] bcast_S1x32768x256_S3x32768x256_0_1_2
    (broadcastInDim S1x32768x256 ![1, 2] bcast_S32768x256_S1x32768x256_1_2 x)

/-- A stack's largest elements, -/
def largest (s : FVec Ideal S3x32768x256 .f32) : FVec Ideal Cert.MergeReferenceIdeal.S32768x256 .f32 :=
  maximumf (broadcastInDim Cert.MergeReferenceIdeal.S32768x256 ![] bcast_S_S32768x256 (constant S_ .f32 0xFF800000#32))
    (Host.reduce FloatOps.maximumf s (constant S_ .f32 0xFF800000#32) reducesTo_S3x32768x256_S32768x256_d0 h_S_)

/-- and its sums. -/
def summed (s : FVec Ideal S3x32768x256 .f32) : FVec Ideal Cert.MergeReferenceIdeal.S32768x256 .f32 :=
  Host.reduceAdd s (constant S_ .f32 0x00000000#32) reducesTo_S3x32768x256_S32768x256_d0 h_S_

theorem stacked_apply (x y z : FVec Ideal Cert.MergeReferenceIdeal.S32768x256 .f32) (a : Fin 3) (i : Fin 32768) (j : Fin 256) :
    stacked x y z (ix3 a i j) = ![x (ix2 i j), y (ix2 i j), z (ix2 i j)] a := by
  fin_cases a
  · pointwise [stacked]
  · pointwise [stacked]
  · pointwise [stacked]

theorem spread_apply (x : FVec Ideal Cert.MergeReferenceIdeal.S32768x256 .f32) (a : Fin 3) (i : Fin 32768) (j : Fin 256) :
    spread x (ix3 a i j) = x (ix2 i j) := by
  pointwise [spread]

/-- The word that a maximum starts from is the least value. -/
theorem bottom : Ideal.ofBits .f32 0xFF800000#32 = (⊥ : EReal) := rfl

/-- The largest of three, reduced from the least value. -/
theorem largest_of_three {a b : ℕ} (h : (⟨3, ![3, a, b]⟩ : Shape).ReducesTo [0] ⟨2, ![a, b]⟩) {u : Shape} (hu : 0 < u.numel)
    (s : FVec Ideal ⟨3, ![3, a, b]⟩ .f32) (init : FVec Ideal u .f32) (hb : init (Shape.Idx.first hu) = (⊥ : EReal)) (i : Fin a) (j : Fin b) :
    Host.reduce FloatOps.maximumf s init h hu (ix2 i j) = max (max (s (ix3 0 i j)) (s (ix3 1 i j))) (s (ix3 2 i j)) := by
  pointwise
  rw [hb]
  have f (g : Fin 3 → EReal) : Finset.fold max ⊥ g Finset.univ = max (max (g 0) (g 1)) (g 2) := by
    rw [show (Finset.univ : Finset (Fin 3)) = {0, 1, 2} from by decide, Finset.fold_insert (by decide),
      Finset.fold_insert (by decide), Finset.fold_singleton, max_eq_left (bot_le : ⊥ ≤ g 2), max_assoc]
  exact f _

theorem largest_apply (s : FVec Ideal S3x32768x256 .f32) (i : Fin 32768) (j : Fin 256) :
    largest s (ix2 i j) = max (max (s (ix3 0 i j)) (s (ix3 1 i j))) (s (ix3 2 i j)) := by
  have h := largest_of_three reducesTo_S3x32768x256_S32768x256_d0 h_S_ s (constant Cert.MergeReferenceIdeal.S_ .f32 0xFF800000#32) bottom i j
  have e (x y : FVec Ideal Cert.MergeReferenceIdeal.S32768x256 .f32) (k : Cert.MergeReferenceIdeal.S32768x256.Idx) :
      maximumf x y k = max (x k) (y k) := rfl
  have b (k : Cert.MergeReferenceIdeal.S32768x256.Idx) : broadcastInDim Cert.MergeReferenceIdeal.S32768x256 ![] bcast_S_S32768x256
      (constant (F := Ideal) Cert.MergeReferenceIdeal.S_ .f32 0xFF800000#32) k = (⊥ : EReal) := bottom
  unfold largest
  rw [e, b]
  exact (max_eq_right bot_le).trans h

theorem summed_apply (s : FVec Ideal S3x32768x256 .f32) (i : Fin 32768) (j : Fin 256) :
    summed s (ix2 i j) = s (ix3 0 i j) + s (ix3 1 i j) + s (ix3 2 i j) := by
  pointwise [summed]
  exact Fin.sum_univ_three _

/-- The exponentials of the log-sums, less their largest. -/
def exps (l : FVec Ideal S3x32768x256 .f32) : FVec Ideal S3x32768x256 .f32 :=
  Host.exp (subf l (spread (largest l)))

/-- The reference's result in these words. -/
theorem result_eq (m : (ℓ : Loc Cert.MergeReferenceIdeal.nD Cert.MergeReferenceIdeal.τ Cert.MergeReferenceIdeal.sig) → Buf (Elt Ideal) ℓ)
    (c : Dev Cert.MergeReferenceIdeal.nD) :
    Cert.MergeReferenceIdeal.Value.res_main_v20 m c
      = summed (mulf (Host.divf (exps (stacked (m (c, Proc.tc.devRef Cert.MergeReferenceIdeal.main_arg3))
            (m (c, Proc.tc.devRef Cert.MergeReferenceIdeal.main_arg4)) (m (c, Proc.tc.devRef Cert.MergeReferenceIdeal.main_arg5))))
          (spread (summed (exps (stacked (m (c, Proc.tc.devRef Cert.MergeReferenceIdeal.main_arg3))
            (m (c, Proc.tc.devRef Cert.MergeReferenceIdeal.main_arg4)) (m (c, Proc.tc.devRef Cert.MergeReferenceIdeal.main_arg5)))))))
        (stacked (m (c, Proc.tc.devRef Cert.MergeReferenceIdeal.main_arg0))
          (m (c, Proc.tc.devRef Cert.MergeReferenceIdeal.main_arg1)) (m (c, Proc.tc.devRef Cert.MergeReferenceIdeal.main_arg2)))) := rfl

theorem exps_apply (l : FVec Ideal S3x32768x256 .f32) (a : Fin 3) (i : Fin 32768) (j : Fin 256) :
    exps l (ix3 a i j) = Ideal.exp (l (ix3 a i j) - max (max (l (ix3 0 i j)) (l (ix3 1 i j))) (l (ix3 2 i j))) := by
  unfold exps
  have e : Host.exp (subf l (spread (largest l))) (ix3 a i j) = Ideal.exp (l (ix3 a i j) - spread (largest l) (ix3 a i j)) := rfl
  rw [e, spread_apply, largest_apply]

/-- The reference's result at an element. -/
theorem reference_apply (oa ob oc la lb lc : FVec Ideal Cert.MergeReferenceIdeal.S32768x256 .f32) (i : Fin 32768) (j : Fin 256) :
    summed (mulf (Host.divf (exps (stacked la lb lc)) (spread (summed (exps (stacked la lb lc))))) (stacked oa ob oc)) (ix2 i j)
      = mergedAt oa ob oc la lb lc (ix2 i j) := by
  have p (x y z : FVec Ideal S3x32768x256 .f32) (k : S3x32768x256.Idx) :
      mulf (Host.divf x y) z k = Ideal.div (x k) (y k) * z k := rfl
  rw [summed_apply]
  simp only [p, spread_apply, summed_apply, exps_apply, stacked_apply]
  unfold mergedAt weighed
  rfl

end Reference

/-- The kernel, its idealization and the reference run to the end and leave their arguments. -/
theorem frame_kernel : Cert.quiescent_Merge := fun m ρ _ => Cert.Merge.Gen.frame m ρ
theorem frame_ideal : Cert.quiescent_MergeIdeal := fun m ρ _ => Cert.MergeIdeal.Gen.frame m ρ
theorem frame_reference : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- The idealized kernel is the kernel. -/
theorem preserves : Cert.preserves_Merge_MergeIdeal := trivial

/-- From arguments that agree both programs end at the mergers. -/
theorem algebraic : Cert.algebraic_MergeIdeal_MergeReferenceIdeal := by
  intro m ρ m' ρ' _ hagree
  refine ⟨fun c => result m c, ?_, ?_⟩
  · exact run_kernel m ρ
  · refine (θ_run Cert.MergeReferenceIdeal.defs _ _).mono (fun r h c => ⟨(h c).1.trans ?_, (h c).2⟩)
      (Cert.MergeReferenceIdeal.Value.run (F := Ideal) m' ρ')
    obtain ⟨h0, h1, h2, h3, h4, h5⟩ := hagree c
    refine (result_eq m' c).trans ?_
    rw [h0, h1, h2, h3, h4, h5]
    funext i
    rw [coords i]
    exact reference_apply _ _ _ _ _ _ (i 0) (i 1)

end Cert.Proof.Merge
-- ==== Proof.lean ====
/- The claims of the programs, put together: each is proved in its own module under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Ssm
public import proofs.«01_k».proof.Proof.Gen.Ssm.Skeleton
public import proofs.«01_k».proof.Proof.Gen.Ssm.Launch
public import proofs.«01_k».proof.Proof.Gen.Ssm.Points
public import proofs.«01_k».proof.Proof.Gen.Ssm.Frame
public import proofs.«01_k».proof.Proof.Gen.SsmIdeal
public import proofs.«01_k».proof.Proof.Gen.SsmIdeal.Skeleton
public import proofs.«01_k».proof.Proof.Gen.SsmIdeal.Launch
public import proofs.«01_k».proof.Proof.Gen.SsmIdeal.Points
public import proofs.«01_k».proof.Proof.Gen.SsmIdeal.Frame
public import proofs.«01_k».proof.Proof.Gen.SsmIdeal.Value
public import proofs.«01_k».proof.Proof.Gen.SsmReferenceIdeal
public import proofs.«01_k».proof.Proof.Gen.SsmReferenceIdeal.Run
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaIdeal.Value
public import proofs.«01_k».proof.Proof.Gen.SwaReferenceIdeal
public import proofs.«01_k».proof.Proof.Gen.SwaReferenceIdeal.Run
public import proofs.«01_k».proof.Proof.Gen.Dil
public import proofs.«01_k».proof.Proof.Gen.Dil.Skeleton
public import proofs.«01_k».proof.Proof.Gen.Dil.Launch
public import proofs.«01_k».proof.Proof.Gen.Dil.Points
public import proofs.«01_k».proof.Proof.Gen.Dil.Frame
public import proofs.«01_k».proof.Proof.Gen.DilIdeal
public import proofs.«01_k».proof.Proof.Gen.DilIdeal.Skeleton
public import proofs.«01_k».proof.Proof.Gen.DilIdeal.Launch
public import proofs.«01_k».proof.Proof.Gen.DilIdeal.Points
public import proofs.«01_k».proof.Proof.Gen.DilIdeal.Frame
public import proofs.«01_k».proof.Proof.Gen.DilIdeal.Value
public import proofs.«01_k».proof.Proof.Gen.DilReferenceIdeal
public import proofs.«01_k».proof.Proof.Gen.DilReferenceIdeal.Run
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesIdeal.Value
public import proofs.«01_k».proof.Proof.Gen.GatesReferenceIdeal
public import proofs.«01_k».proof.Proof.Gen.GatesReferenceIdeal.Run
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.MixerIdeal.Value
public import proofs.«01_k».proof.Proof.Gen.MixerReferenceIdeal
public import proofs.«01_k».proof.Proof.Gen.MixerReferenceIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.MergeReferenceIdeal.Run
public import proofs.«01_k».proof.Proof.Attention
public import proofs.«01_k».proof.Proof.Ssm
public import proofs.«01_k».proof.Proof.Swa
public import proofs.«01_k».proof.Proof.Dil
public import proofs.«01_k».proof.Proof.Gates
public import proofs.«01_k».proof.Proof.Mixer
public import proofs.«01_k».proof.Proof.Merge
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Ssm.Gen.facts, Cert.SsmIdeal.Gen.facts, Cert.SsmReferenceIdeal.Gen.facts,
  Cert.Swa.Gen.facts, Cert.SwaIdeal.Gen.facts, Cert.SwaReferenceIdeal.Gen.facts,
  Cert.Dil.Gen.facts, Cert.DilIdeal.Gen.facts, Cert.DilReferenceIdeal.Gen.facts,
  Cert.Gates.Gen.facts, Cert.GatesIdeal.Gen.facts, Cert.GatesReferenceIdeal.Gen.facts,
  Cert.Mixer.Gen.facts, Cert.MixerIdeal.Gen.facts, Cert.MixerReferenceIdeal.Gen.facts,
  Cert.Merge.Gen.facts, Cert.MergeIdeal.Gen.facts, Cert.MergeReferenceIdeal.Gen.facts,
  Attention.frame_kernel, Attention.frame_ideal, Attention.frame_reference,
  Ssm.frame_kernel, Ssm.frame_ideal, Ssm.frame_reference,
  Swa.frame_kernel, Swa.frame_ideal, Swa.frame_reference,
  Dil.frame_kernel, Dil.frame_ideal, Dil.frame_reference,
  Gates.frame_kernel, Gates.frame_ideal, Gates.frame_reference,
  Mixer.frame_kernel, Mixer.frame_ideal, Mixer.frame_reference,
  Merge.frame_kernel, Merge.frame_ideal, Merge.frame_reference,
  Attention.preserves, Attention.algebraic,
  Ssm.preserves, Ssm.algebraic,
  Swa.preserves, Swa.algebraic,
  Dil.preserves, Dil.algebraic,
  Gates.preserves, Gates.algebraic,
  Mixer.preserves, Mixer.algebraic,
  Merge.preserves, Merge.algebraic⟩

end Cert.Proof

end
